-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_exact_tables [hPre_exact_tables : Cert.Pre_exact_tables.Facts] (m : (ℓ : Loc Cert.KernelIdeal.nD Cert.KernelIdeal.τ Cert.KernelIdeal.sig) → Buf (Elt Ideal) ℓ) : Prop :=
  ∀ c : Dev Cert.KernelIdeal.nD,
    (Cert.Pre_exact_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_exact_tables [hPre_exact_tables : Cert.Pre_exact_tables.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_exact_tables.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_exact_tables [hKernelIdeal : Cert.KernelIdeal.Facts] [hPre_exact_tables : Cert.Pre_exact_tables.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_exact_tables m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_exact_tables [hReferenceIdeal : Cert.ReferenceIdeal.Facts] [hPre_exact_tables : Cert.Pre_exact_tables.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_exact_tables m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5))
      ∧ r.2.sem = fun _ => 0)

def preserves_Kernel_KernelIdeal : Prop :=
  IdealRules.named_const.Statement Cert.KernelIdeal.κ "inv_ln_two" .f32 0x3FB8AA3B#32 (((Real.log 2)⁻¹ : ℝ) : EReal)

def preserves_Reference_ReferenceIdeal : Prop :=
  IdealRules.named_const.Statement Cert.ReferenceIdeal.κ "two_pi_over_seq" .f32 0x3AA0D97C#32 ((Real.pi * (1 / 2560) : ℝ) : EReal)
  ∧ IdealRules.named_const.Statement Cert.ReferenceIdeal.κ "inv_ln_two" .f32 0x3FB8AA3B#32 (((Real.log 2)⁻¹ : ℝ) : EReal)

def algebraic_KernelIdeal_ReferenceIdeal_pre_exact_tables [hKernelIdeal : Cert.KernelIdeal.Facts] [hReferenceIdeal : Cert.ReferenceIdeal.Facts] [hPre_exact_tables : Cert.Pre_exact_tables.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_exact_tables m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hReference : Cert.Reference.Facts) (hPre_exact_tables : Cert.Pre_exact_tables.Facts),
    quiescent_Kernel (hKernel := hKernel)
    ∧ quiescent_KernelIdeal (hKernelIdeal := hKernelIdeal)
    ∧ quiescent_KernelIdeal_pre_exact_tables (hKernelIdeal := hKernelIdeal) (hPre_exact_tables := hPre_exact_tables)
    ∧ quiescent_ReferenceIdeal (hReferenceIdeal := hReferenceIdeal)
    ∧ quiescent_ReferenceIdeal_pre_exact_tables (hReferenceIdeal := hReferenceIdeal) (hPre_exact_tables := hPre_exact_tables)
    ∧ quiescent_Reference (hReference := hReference)
    ∧ preserves_Kernel_KernelIdeal
    ∧ preserves_Reference_ReferenceIdeal
    ∧ algebraic_KernelIdeal_ReferenceIdeal_pre_exact_tables (hKernelIdeal := hKernelIdeal) (hReferenceIdeal := hReferenceIdeal) (hPre_exact_tables := hPre_exact_tables)
-- ==== Pre_exact_tables.lean ====
abbrev S2x5120x128 : Shape := ⟨3, ![2, 5120, 128]⟩
abbrev S1 : Shape := ⟨1, ![1]⟩
abbrev S32x1280 : Shape := ⟨2, ![32, 1280]⟩
abbrev S_ : Shape := ⟨0, ![]⟩

class Facts : Prop where
  bcast_S_S32x1280 : S_.BroadcastsInDim S32x1280 (![] : Fin 0 → Fin S32x1280.rank)
  reducesTo_S32x1280_S_d0_1 : S32x1280.ReducesTo [0, 1] S_
  h_S_ : 0 < S_.numel

variable [Facts]

def fn_part1 {F : FTy → Type} [FloatOps F] (main_arg3 : FVec F S32x1280 .f32) (main_arg4 : FVec F S32x1280 .f32) (main_arg5 : FVec F S32x1280 .f32) (main_v8 : FVec F S32x1280 .f32) (main_v15 : FVec F S32x1280 .f32) (main_v17 : IVec S32x1280 1) (main_c : IVec S_ 1) : IVec S_ 1 :=
  let main_v18 : IVec S_ 1 := (fun x v => Host.reduce IntOp.andi x v reducesTo_S32x1280_S_d0_1 h_S_) main_v17 main_c
  let main_v19 : FVec F S32x1280 .f32 := Host.sin main_v8
  let main_v20 : IVec S32x1280 1 := cmpf .oeq main_arg3 main_v19
  let main_c_4 : IVec S_ 1 := constantI S_ 1 1#1
  let main_v21 : IVec S_ 1 := (fun x v => Host.reduce IntOp.andi x v reducesTo_S32x1280_S_d0_1 h_S_) main_v20 main_c_4
  let main_v22 : IVec S_ 1 := andi main_v18 main_v21
  let main_v23 : FVec F S32x1280 .f32 := Host.cos main_v15
  let main_v24 : IVec S32x1280 1 := cmpf .oeq main_arg4 main_v23
  let main_c_5 : IVec S_ 1 := constantI S_ 1 1#1
  let main_v25 : IVec S_ 1 := (fun x v => Host.reduce IntOp.andi x v reducesTo_S32x1280_S_d0_1 h_S_) main_v24 main_c_5
  let main_v26 : IVec S_ 1 := andi main_v22 main_v25
  let main_v27 : FVec F S32x1280 .f32 := Host.sin main_v15
  let main_v28 : IVec S32x1280 1 := cmpf .oeq main_arg5 main_v27
  let main_c_6 : IVec S_ 1 := constantI S_ 1 1#1
  let main_v29 : IVec S_ 1 := (fun x v => Host.reduce IntOp.andi x v reducesTo_S32x1280_S_d0_1 h_S_) main_v28 main_c_6
  let main_v30 : IVec S_ 1 := andi main_v26 main_v29
  main_v30

def fn {F : FTy → Type} [FloatOps F] (main_arg0 : IVec S2x5120x128 8) (main_arg1 : FVec F S1 .f32) (main_arg2 : FVec F S32x1280 .f32) (main_arg3 : FVec F S32x1280 .f32) (main_arg4 : FVec F S32x1280 .f32) (main_arg5 : FVec F S32x1280 .f32) : IVec S_ 1 :=
  let main_v0 : IVec S32x1280 32 := iotaInDim S32x1280 32 0
  let main_v1 : FVec F S32x1280 .f32 := sitofp .f32 main_v0
  let main_v2 : IVec S32x1280 32 := iotaInDim S32x1280 32 1
  let main_v3 : FVec F S32x1280 .f32 := sitofp .f32 main_v2
  let main_v4 : FVec F S32x1280 .f32 := mulf main_v1 main_v3
  let main_cst : FVec F S_ .f32 := constant S_ .f32 0xBF800000#32
  let main_v5 : FVec F S_ .f32 := Host.acos main_cst
  let main_cst_0 : FVec F S_ .f32 := constant S_ .f32 0x45200000#32
  let main_v6 : FVec F S_ .f32 := Host.divf main_v5 main_cst_0
  let main_v7 : FVec F S32x1280 .f32 := broadcastInDim S32x1280 ![] bcast_S_S32x1280 main_v6
  let main_v8 : FVec F S32x1280 .f32 := mulf main_v4 main_v7
  let main_v9 : FVec F S32x1280 .f32 := mulf main_v1 main_v3
  let main_cst_1 : FVec F S_ .f32 := constant S_ .f32 0x42000000#32
  let main_v10 : FVec F S32x1280 .f32 := broadcastInDim S32x1280 ![] bcast_S_S32x1280 main_cst_1
  let main_v11 : FVec F S32x1280 .f32 := mulf main_v9 main_v10
  let main_cst_2 : FVec F S_ .f32 := constant S_ .f32 0xBF800000#32
  let main_v12 : FVec F S_ .f32 := Host.acos main_cst_2
  let main_cst_3 : FVec F S_ .f32 := constant S_ .f32 0x45200000#32
  let main_v13 : FVec F S_ .f32 := Host.divf main_v12 main_cst_3
  let main_v14 : FVec F S32x1280 .f32 := broadcastInDim S32x1280 ![] bcast_S_S32x1280 main_v13
  let main_v15 : FVec F S32x1280 .f32 := mulf main_v11 main_v14
  let main_v16 : FVec F S32x1280 .f32 := Host.cos main_v8
  let main_v17 : IVec S32x1280 1 := cmpf .oeq main_arg2 main_v16
  let main_c : IVec S_ 1 := constantI S_ 1 1#1
  fn_part1 (F := F) main_arg3 main_arg4 main_arg5 main_v8 main_v15 main_v17 main_c
-- ==== Kernel.lean ====
abbrev S2x5120x128 : Shape := ⟨3, ![2, 5120, 128]⟩
abbrev S1 : Shape := ⟨1, ![1]⟩
abbrev S32x1280 : Shape := ⟨2, ![32, 1280]⟩
abbrev S2x960x128 : Shape := ⟨3, ![2, 960, 128]⟩
abbrev S1x960 : Shape := ⟨2, ![1, 960]⟩
abbrev S1920x1280 : Shape := ⟨2, ![1920, 1280]⟩
abbrev S4x384x256 : Shape := ⟨3, ![4, 384, 256]⟩
abbrev S2x2x960x128 : Shape := ⟨4, ![2, 2, 960, 128]⟩
abbrev S15x256x256 : Shape := ⟨3, ![15, 256, 256]⟩
abbrev S2x3840x128 : Shape := ⟨3, ![2, 3840, 128]⟩
abbrev S960x128 : Shape := ⟨2, ![960, 128]⟩
abbrev S_ : Shape := ⟨0, ![]⟩
abbrev S2 : Shape := ⟨1, ![2]⟩
abbrev S1x1280 : Shape := ⟨2, ![1, 1280]⟩
abbrev S384x1280 : Shape := ⟨2, ![384, 1280]⟩
abbrev S1x1280x128 : Shape := ⟨3, ![1, 1280, 128]⟩
abbrev S1280x128 : Shape := ⟨2, ![1280, 128]⟩
abbrev S1280x256 : Shape := ⟨2, ![1280, 256]⟩
abbrev S384x256 : Shape := ⟨2, ![384, 256]⟩
abbrev S1x384x256 : Shape := ⟨3, ![1, 384, 256]⟩
abbrev S32x256 : Shape := ⟨2, ![32, 256]⟩
abbrev S1x32x256 : Shape := ⟨3, ![1, 32, 256]⟩
abbrev S32 : Shape := ⟨1, ![32]⟩
abbrev S32x1 : Shape := ⟨2, ![32, 1]⟩
abbrev S32x128 : Shape := ⟨2, ![32, 128]⟩
abbrev S1x1x32x128 : Shape := ⟨4, ![1, 1, 32, 128]⟩
abbrev S1x32x128 : Shape := ⟨3, ![1, 32, 128]⟩
abbrev S1x2x960x128 : Shape := ⟨4, ![1, 2, 960, 128]⟩
abbrev S128x128 : Shape := ⟨2, ![128, 128]⟩
abbrev S128 : Shape := ⟨1, ![128]⟩
abbrev S1x128 : Shape := ⟨2, ![1, 128]⟩
abbrev S64x128 : Shape := ⟨2, ![64, 128]⟩
abbrev S1x64 : Shape := ⟨2, ![1, 64]⟩

abbrev nBuf : Space → Nat
  | .hbm => 10
  | .vmem => 12
  | .smem => 1
  | _ => 0

abbrev bufTy : (tb : Table) → Fin (tcTables nBuf tb) → BufTy
  | .hbm, ⟨0, _⟩ => ⟨S2x5120x128, .i8⟩
  | .hbm, ⟨1, _⟩ => ⟨S1, .f32⟩
  | .hbm, ⟨2, _⟩ => ⟨S32x1280, .f32⟩
  | .hbm, ⟨3, _⟩ => ⟨S32x1280, .f32⟩
  | .hbm, ⟨4, _⟩ => ⟨S32x1280, .f32⟩
  | .hbm, ⟨5, _⟩ => ⟨S32x1280, .f32⟩
  | .hbm, ⟨6, _⟩ => ⟨S2x5120x128, .fp8e5m2⟩
  | .hbm, ⟨7, _⟩ => ⟨S2x960x128, .fp8e5m2⟩
  | .hbm, ⟨8, _⟩ => ⟨S2x960x128, .fp8e5m2⟩
  | .hbm, ⟨9, _⟩ => ⟨S1x960, .f32⟩
  | .local _ .vmem, ⟨0, _⟩ => ⟨S32x1280, .f32⟩
  | .local _ .vmem, ⟨1, _⟩ => ⟨S32x1280, .f32⟩
  | .local _ .vmem, ⟨2, _⟩ => ⟨S32x1280, .f32⟩
  | .local _ .vmem, ⟨3, _⟩ => ⟨S32x1280, .f32⟩
  | .local _ .vmem, ⟨4, _⟩ => ⟨S2x5120x128, .fp8e5m2⟩
  | .local _ .vmem, ⟨5, _⟩ => ⟨S1920x1280, .bf16⟩
  | .local _ .vmem, ⟨6, _⟩ => ⟨S4x384x256, .f32⟩
  | .local _ .vmem, ⟨7, _⟩ => ⟨S2x2x960x128, .fp8e5m2⟩
  | .local _ .vmem, ⟨8, _⟩ => ⟨S15x256x256, .fp8e5m2⟩
  | .local _ .vmem, ⟨9, _⟩ => ⟨S2x3840x128, .f32⟩
  | .local _ .vmem, ⟨10, _⟩ => ⟨S960x128, .f32⟩
  | .local _ .vmem, ⟨11, _⟩ => ⟨S1x960, .f32⟩
  | .local _ .smem, ⟨0, _⟩ => ⟨S1, .f32⟩
  | _, _ => ⟨S2x5120x128, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x1280 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x1280 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x1280 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x1280 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== KernelIdeal.lean ====
variable {F : FTy → Type} [FloatOps F] [Named F]
def κ : String → Option EReal := fun
  | "inv_ln_two" => some (((Real.log 2)⁻¹ : ℝ) : EReal)
  | "two_pi_over_seq" => some ((Real.pi * (1 / 2560) : ℝ) : EReal)
  | _ => none
-- ==== ReferenceIdeal.lean ====
variable {F : FTy → Type} [FloatOps F] [Named F]
def κ : String → Option EReal := fun
  | "inv_ln_two" => some (((Real.log 2)⁻¹ : ℝ) : EReal)
  | "two_pi_over_seq" => some ((Real.pi * (1 / 2560) : ℝ) : EReal)
  | _ => none
-- ==== Reference.lean ====
abbrev S2x5120x128 : Shape := ⟨3, ![2, 5120, 128]⟩
abbrev S1 : Shape := ⟨1, ![1]⟩
abbrev S32x1280 : Shape := ⟨2, ![32, 1280]⟩
abbrev S2x960x128 : Shape := ⟨3, ![2, 960, 128]⟩
abbrev S1x960 : Shape := ⟨2, ![1, 960]⟩
abbrev S960x5120 : Shape := ⟨2, ![960, 5120]⟩
abbrev S960x128 : Shape := ⟨2, ![960, 128]⟩
abbrev S1x5120x128 : Shape := ⟨3, ![1, 5120, 128]⟩
abbrev S5120x128 : Shape := ⟨2, ![5120, 128]⟩
abbrev S960 : Shape := ⟨1, ![960]⟩
abbrev S960x1 : Shape := ⟨2, ![960, 1]⟩
abbrev S1x960x128 : Shape := ⟨3, ![1, 960, 128]⟩

abbrev nBuf : Space → Nat
  | .hbm => 10
  | .vmem => 8
  | .smem => 1
  | _ => 0

abbrev bufTy : (tb : Table) → Fin (tcTables nBuf tb) → BufTy
  | .hbm, ⟨0, _⟩ => ⟨S2x5120x128, .i8⟩
  | .hbm, ⟨1, _⟩ => ⟨S1, .f32⟩
  | .hbm, ⟨2, _⟩ => ⟨S32x1280, .f32⟩
  | .hbm, ⟨3, _⟩ => ⟨S32x1280, .f32⟩
  | .hbm, ⟨4, _⟩ => ⟨S32x1280, .f32⟩
  | .hbm, ⟨5, _⟩ => ⟨S32x1280, .f32⟩
  | .hbm, ⟨6, _⟩ => ⟨S2x5120x128, .fp8e5m2⟩
  | .hbm, ⟨7, _⟩ => ⟨S2x960x128, .fp8e5m2⟩
  | .hbm, ⟨8, _⟩ => ⟨S2x960x128, .fp8e5m2⟩
  | .hbm, ⟨9, _⟩ => ⟨S1x960, .f32⟩
  | .local _ .vmem, ⟨0, _⟩ => ⟨S2x5120x128, .fp8e5m2⟩
  | .local _ .vmem, ⟨1, _⟩ => ⟨S32x1280, .f32⟩
  | .local _ .vmem, ⟨2, _⟩ => ⟨S32x1280, .f32⟩
  | .local _ .vmem, ⟨3, _⟩ => ⟨S32x1280, .f32⟩
  | .local _ .vmem, ⟨4, _⟩ => ⟨S32x1280, .f32⟩
  | .local _ .vmem, ⟨5, _⟩ => ⟨S2x960x128, .fp8e5m2⟩
  | .local _ .vmem, ⟨6, _⟩ => ⟨S2x960x128, .fp8e5m2⟩
  | .local _ .vmem, ⟨7, _⟩ => ⟨S1x960, .f32⟩
  | .local _ .smem, ⟨0, _⟩ => ⟨S1, .f32⟩
  | _, _ => ⟨S2x5120x128, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev cc0_stg0_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg1_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S2x5120x128 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x1280 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x1280 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x1280 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x1280 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x960x128 .fp8e5m2 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x960x128 .fp8e5m2 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x960 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.RunV.lean ====
/- The run of the kernel's body with what the three results hold named: the contents found by running the body from
   given scratch contents are the witness (`runV`). -/
module

public import proofs.«01_k».proof.Proof.Gen.KernelIdeal.Frame.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

-- (the run's proof term is large: checking it walks past the default budget)
set_option maxHeartbeats 12576000 in set_option sl_exec.dmaWindow true in set_option sl_exec.dmaWindowSet true in
/-- The body run from given contents of every buffer: what the three HBM results end with, and the triple that says so. -/
def runV (c : Dev nD) (arg1 : Memref sig .tc .smem S1 .f32) (harg1 : arg1.IsWhole) (arg2 : Memref sig .tc .vmem S32x1280 .f32) (harg2 : arg2.IsWhole) (arg3 : Memref sig .tc .vmem S32x1280 .f32) (harg3 : arg3.IsWhole) (arg4 : Memref sig .tc .vmem S32x1280 .f32) (harg4 : arg4.IsWhole) (arg5 : Memref sig .tc .vmem S32x1280 .f32) (harg5 : arg5.IsWhole) (arg9 : Memref sig .tc .vmem S2x5120x128 .fp8e5m2) (harg9 : arg9.IsWhole) (arg10 : Memref sig .tc .vmem S1920x1280 .bf16) (harg10 : arg10.IsWhole) (arg11 : Memref sig .tc .vmem S4x384x256 .f32) (harg11 : arg11.IsWhole) (arg12 : Memref sig .tc .vmem S2x2x960x128 .fp8e5m2) (harg12 : arg12.IsWhole) (arg13 : Memref sig .tc .vmem S15x256x256 .fp8e5m2) (harg13 : arg13.IsWhole) (arg14 : Memref sig .tc .vmem S2x3840x128 .f32) (harg14 : arg14.IsWhole) (arg15 : Memref sig .tc .vmem S960x128 .f32) (harg15 : arg15.IsWhole) (arg16 : Memref sig .tc .vmem S1x960 .f32) (harg16 : arg16.IsWhole)
    (x0 : Vec F S1 .f32) (x1 : Vec F S32x1280 .f32) (x2 : Vec F S32x1280 .f32) (x3 : Vec F S32x1280 .f32) (x4 : Vec F S32x1280 .f32) (fh0 : HbBuf0 (F := F) c hbM0_0)
    (d0 : Vec F S2x5120x128 .fp8e5m2) (d1 : Vec F S1920x1280 .bf16) (d2 : Vec F S4x384x256 .f32) (d3 : Vec F S2x2x960x128 .fp8e5m2) (d4 : Vec F S15x256x256 .fp8e5m2) (d5 : Vec F S2x3840x128 .f32) (d6 : Vec F S960x128 .f32) (d7 : Vec F S1x960 .f32)
    (g1 : HbBuf0 (F := F) c hbM0_1) (g2 : HbBuf0 (F := F) c hbM0_2) (g3 : HbBuf0 (F := F) c hbM0_3) :
      { p : HbBuf0 (F := F) c hbM0_1 × HbBuf0 (F := F) c hbM0_2 × HbBuf0 (F := F) c hbM0_3 // ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg9 fullShare d0 ∗ owns (c : Thread nD τ) arg10 fullShare d1 ∗ owns (c : Thread nD τ) arg11 fullShare d2 ∗ owns (c : Thread nD τ) arg12 fullShare d3 ∗ owns (c : Thread nD τ) arg13 fullShare d4 ∗ owns (c : Thread nD τ) arg14 fullShare d5 ∗ owns (c : Thread nD τ) arg15 fullShare d6 ∗ owns (c : Thread nD τ) arg16 fullShare d7 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ hbPt0 c hbM0_0 fh0 ∗ hbPt0 c hbM0_1 g1 ∗ hbPt0 c hbM0_2 g2 ∗ hbPt0 c hbM0_3 g3 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ hbPt0 c hbM0_0 fh0 ∗ hbPt0 c hbM0_1 p.1 ∗ hbPt0 c hbM0_2 p.2.1 ∗ hbPt0 c hbM0_3 p.2.2 ∗ (∃ W', owes (c : Thread nD τ) 0 W')) -∗ K ⟨⟩))
          ⊢ wp frame (wpE (defs₀ (F := F)) Variants.none c none) Set.univ (cc0_fno_bwd (Memref.whole main_v0) (Memref.isWhole_whole _) arg1 harg1 arg2 harg2 arg3 harg3 arg4 harg4 arg5 harg5 (Memref.whole main_v1_0) (Memref.isWhole_whole _) (Memref.whole main_v1_1) (Memref.isWhole_whole _) (Memref.whole main_v1_2) (Memref.isWhole_whole _) arg9 harg9 arg10 harg10 arg11 harg11 arg12 harg12 arg13 harg13 arg14 harg14 arg15 harg15 arg16 harg16 cc0_scratch8 cc0_scratch9 cc0_scratch10) K } := by
    refine ⟨⟨?_, ?_, ?_⟩, fun W K => ?_⟩; rotate_left 3
    simp only [cc0_fno_bwd_eq_skeleton]; unfold cc0_fno_bwd_skel
    simp only [k0_part209_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part210_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part211_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part212_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hs0, HS0⟩, ⟨%fs1, %hs1, HS1⟩, ⟨%fs2, %hs2, HS2⟩, ⟨%fs3, %hs3, HS3⟩, ⟨%fs4, %hs4, HS4⟩, ⟨%fs5, %hs5, HS5⟩, ⟨%fs6, %hs6, HS6⟩, ⟨%fs7, %hs7, HS7⟩, Hq0, Hq1, Hq2, Hq3, Hh0, Hh1, Hh2, Hh3, HW, Hk⟩
    obtain rfl := harg1.eq_unread hf0; obtain rfl := harg2.eq_unread hf1; obtain rfl := harg3.eq_unread hf2; obtain rfl := harg4.eq_unread hf3; obtain rfl := harg5.eq_unread hf4; obtain rfl := harg9.eq_unread hs0; obtain rfl := harg10.eq_unread hs1; obtain rfl := harg11.eq_unread hs2; obtain rfl := harg12.eq_unread hs3; obtain rfl := harg13.eq_unread hs4; obtain rfl := harg14.eq_unread hs5; obtain rfl := harg15.eq_unread hs6; obtain rfl := harg16.eq_unread hs7
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    isplitl [Hq0]; · iexact Hq0
    isplitl [Hq1]; · iexact Hq1
    isplitl [Hq2]; · iexact Hq2
    isplitl [Hq3]; · iexact Hq3
    isplitl [Hh0]; · iexact Hh0
    isplitl [Hh1]; · iexact Hh1
    isplitl [Hh2]; · iexact Hh2
    isplitl [Hh3]; · iexact Hh3
    iexists _; iexact HW

end Cert.KernelIdeal.Gen

end
-- ==== Proof.Lists.lean ====
/- The stores of the kernel's body, as lists given by a rule: row block `n` of the basis, product `j` of chunk `k`,
   the four code blocks and the scale block of row block `n`. The lists found by running the body are these. -/
module

public import proofs.«01_k».proof.Proof.RunV
import all proofs.«01_k».proof.Proof.RunV

@[expose] public section

set_option maxRecDepth 16384

noncomputable section

namespace Cert.KernelIdeal.Dft

open Cert.KernelIdeal Cert.KernelIdeal.Gen
open Idealize.ShloMosaic Idealize.ShloMosaic.TcCoe Idealize.ShloMosaic.Tactic

variable {F : FTy → Type} [FloatOps F] [Named F]

/-- Two lists agree when their heads and their tails do. -/
theorem cons_eq {α : Type _} {a b : α} {l k : List α} (h : a = b) (h' : l = k) : a :: l = b :: k := by rw [h, h']

/-! ## What one row block computes -/

section Block
variable (r : F .f32) (m : BitVec 32) (a0 a1 a2 a3 b0 b1 b2 b3 : Vec F S1x32x256 .f32)

abbrev zero : F .f32 := Scalar.ofBits .f32 0x00000000#32
abbrev one : F .f32 := Scalar.ofBits .f32 0x3F800000#32
abbrev bf (x : F .f32) : FVec F S32x256 .f32 := broadcast S32x256 x
abbrev bi (x : BitVec 32) : IVec S32x256 32 := broadcast S32x256 x
/-- The row's number. -/
def row : IVec S32x256 32 := addi (bi m) (iota .tc S32x256 32 [0] iota_S32x256_d0_w32)
/-- The row's number modulo four. -/
def low : IVec S32x256 32 := andi (row m) (bi 3#32)
def alpha : FVec F S32x256 .f32 :=
  select (cmpi .eq (low m) (bi 0#32)) (bf one) (select (cmpi .eq (low m) (bi 2#32)) (bf (Scalar.subf zero one)) (bf zero))
def beta : FVec F S32x256 .f32 :=
  select (cmpi .eq (low m) (bi 1#32)) (bf one) (select (cmpi .eq (low m) (bi 3#32)) (bf (Scalar.subf zero one)) (bf zero))
def sigma : FVec F S32x256 .f32 :=
  select (cmpi .eq (andi (low m) (bi 1#32)) (bi 0#32)) (bf one) (bf (Scalar.subf zero one))
def flat (x : Vec F S1x32x256 .f32) : FVec F S32x256 .f32 := shapeCast S32x256 x shapeCasts_S1x32x256_S32x256
/-- The even (or odd) quarters joined. -/
def join (x y : Vec F S1x32x256 .f32) : FVec F S32x256 .f32 := addf (flat x) (mulf (sigma m) (flat y))
def coef : FVec F S32x256 .f32 :=
  mulf (bf r) (divf (select (cmpi .eq (row m) (bi 0#32)) (bf one) (bf (Scalar.ofBits .f32 0x40000000#32))) (bf (Scalar.ofBits .f32 0x45A00000#32)))
def yre : FVec F S32x256 .f32 :=
  mulf (addf (addf (join m a0 a2) (mulf (alpha m) (join m a1 a3))) (mulf (beta m) (join m b1 b3))) (coef r m)
def yim : FVec F S32x256 .f32 :=
  mulf (subf (addf (join m b0 b2) (mulf (alpha m) (join m b1 b3))) (mulf (beta m) (join m a1 a3))) (coef r m)
def top (u v : FVec F S32x256 .f32) : FVec F S32x256 .f32 :=
  broadcastTo S32x256 (shapeCast S32x1 (mulf (shapeCast S32x1
    (multiReduction .maximumf [1] S32 (maximumf (absf u) (absf v)) 0xFF800000#32 reduces_S32x256_S32 (.inl rfl) rfl) shapeCasts_S32_S32x1)
    (broadcast S32x1 (Scalar.ofBits .f32 0x37924925#32))) shapeCasts_S32x1_S32x1) broadcasts_S32x1_S32x256
/-- The scale's exponent, one value a row. -/
def expo (u v : FVec F S32x256 .f32) : FVec F S32x256 .f32 :=
  select (cmpf .oeq (top u v) (bf zero)) (bf zero)
    (addf (floor (mulf (log (top u v)) (bf (Named.named κ "inv_ln_two" 0x3FB8AA3B#32)))) (bf one))
def code (y e : FVec F S32x256 .f32) : FVec F S32x256 .fp8e5m2 :=
  truncf .fp8e5m2 (minimumf (bf (Scalar.ofBits .f32 0x47600000#32)) (maximumf (bf (Scalar.ofBits .f32 0xC7600000#32))
    (mulf y (exp2 (subf (bf zero) e))))) bitsLt_fp8e5m2_f32
def half0 (x : FVec F S32x256 .fp8e5m2) : Vec F S1x1x32x128 .fp8e5m2 :=
  shapeCast S1x1x32x128 (extractStridedSlice S32x128 ![0, 0] x slices_S32x256_o0_0_S32x128) shapeCasts_S32x128_S1x1x32x128
def half1 (x : FVec F S32x256 .fp8e5m2) : Vec F S1x1x32x128 .fp8e5m2 :=
  shapeCast S1x1x32x128 (extractStridedSlice S32x128 ![0, 128] x slices_S32x256_o0_128_S32x128) shapeCasts_S32x128_S1x1x32x128
def scale (e : FVec F S32x256 .f32) : Vec F S32x128 .f32 :=
  shapeCast S32x128 (extractStridedSlice S32x128 ![0, 0] (exp2 e) slices_S32x256_o0_0_S32x128) shapeCasts_S32x128_S32x128

end Block

section Run
variable (c : Dev nD) (arg1 : Memref sig .tc .smem S1 .f32) (harg1 : arg1.IsWhole) (arg2 : Memref sig .tc .vmem S32x1280 .f32) (harg2 : arg2.IsWhole)
  (arg3 : Memref sig .tc .vmem S32x1280 .f32) (harg3 : arg3.IsWhole) (arg4 : Memref sig .tc .vmem S32x1280 .f32) (harg4 : arg4.IsWhole)
  (arg5 : Memref sig .tc .vmem S32x1280 .f32) (harg5 : arg5.IsWhole) (arg9 : Memref sig .tc .vmem S2x5120x128 .fp8e5m2)
  (arg10 : Memref sig .tc .vmem S1920x1280 .bf16) (arg11 : Memref sig .tc .vmem S4x384x256 .f32)
  (arg15 : Memref sig .tc .vmem S960x128 .f32)
  (x0 : Vec F S1 .f32) (x1 : Vec F S32x1280 .f32) (x2 : Vec F S32x1280 .f32) (x3 : Vec F S32x1280 .f32) (x4 : Vec F S32x1280 .f32)
  (fh0 : HbBuf0 (F := F) c hbM0_0)

/-! ## The basis -/

theorem inbRow (n : ℕ) : ∀ a, (![n % 30, 0] : Fin 2 → ℕ) a + S1x1280.size a ≤ S32x1280.size a := by
  intro a; fin_cases a
  · show n % 30 + 1 ≤ 32; omega
  · show 0 + 1280 ≤ 1280; omega
theorem inbTab : ∀ a, (![0, 0] : Fin 2 → ℕ) a + S32x1280.size a ≤ S32x1280.size a := by
  intro a; fin_cases a
  · show 0 + 32 ≤ 32; omega
  · show 0 + 1280 ≤ 1280; omega
def coarse (arg : Memref sig .tc .vmem S32x1280 .f32) (harg : arg.IsWhole) (x : Vec F S32x1280 .f32) (n : ℕ) : FVec F S32x1280 .f32 :=
  broadcastTo S32x1280 (View.readAt (Elt F) arg.view (Rect.unit (s := S32x1280) ![n % 30, 0] S1x1280.size (inbRow n)).toLoadRect (harg.unread x) : Vec F S1x1280 .f32) broadcasts_S1x1280_S32x1280
def fine (arg : Memref sig .tc .vmem S32x1280 .f32) (harg : arg.IsWhole) (x : Vec F S32x1280 .f32) : FVec F S32x1280 .f32 :=
  View.readAt (Elt F) arg.view (Rect.unit (s := S32x1280) ![0, 0] S32x1280.size inbTab).toLoadRect (harg.unread x)
def basisRe (n : ℕ) : Vec F S32x1280 .bf16 :=
  shapeCast S32x1280 (truncf .bf16 (subf (mulf (coarse arg4 harg4 x3 n) (fine arg2 harg2 x1)) (mulf (coarse arg5 harg5 x4 n) (fine arg3 harg3 x2))) bitsLt_bf16_f32) shapeCasts_S32x1280_S32x1280
def basisIm (n : ℕ) : Vec F S32x1280 .bf16 :=
  shapeCast S32x1280 (truncf .bf16 (subf (broadcast S32x1280 zero) (addf (mulf (coarse arg5 harg5 x4 n) (fine arg2 harg2 x1)) (mulf (coarse arg4 harg4 x3 n) (fine arg3 harg3 x2)))) bitsLt_bf16_f32) shapeCasts_S32x1280_S32x1280

theorem inb1 (n h : ℕ) : ∀ a, (![384 * (n % 30 / 6) + 192 * (h % 2) + 32 * (n % 30 % 6), 0] : Fin 2 → ℕ) a + S32x1280.size a ≤ S1920x1280.size a := by
  intro a; fin_cases a
  · show 384 * (n % 30 / 6) + 192 * (h % 2) + 32 * (n % 30 % 6) + 32 ≤ 1920; omega
  · show 0 + 1280 ≤ 1280; omega
/-- The stores of the basis' first `n` row blocks, the newest first. -/
def L1 : ℕ → List (View.Piece (Elt F) S1920x1280 .bf16)
  | 0 => []
  | n + 1 => ⟨Rect.unit (s := S1920x1280) ![384 * (n % 30 / 6) + 192 * (1 % 2) + 32 * (n % 30 % 6), 0] S32x1280.size (inb1 n 1), basisIm arg2 harg2 arg3 harg3 arg4 harg4 arg5 harg5 x1 x2 x3 x4 n⟩
      :: ⟨Rect.unit (s := S1920x1280) ![384 * (n % 30 / 6) + 192 * (0 % 2) + 32 * (n % 30 % 6), 0] S32x1280.size (inb1 n 0), basisRe arg2 harg2 arg3 harg3 arg4 harg4 arg5 harg5 x1 x2 x3 x4 n⟩
      :: L1 n

/-! ## The products -/

theorem inbB (k : ℕ) : ∀ a, (![384 * (k % 5), 0] : Fin 2 → ℕ) a + S384x1280.size a ≤ S1920x1280.size a := by
  intro a; fin_cases a
  · show 384 * (k % 5) + 384 ≤ 1920; omega
  · show 0 + 1280 ≤ 1280; omega
theorem inbD (b j : ℕ) : ∀ a, (![b % 2, 1280 * (j % 4), 0] : Fin 3 → ℕ) a + S1x1280x128.size a ≤ S2x5120x128.size a := by
  intro a; fin_cases a
  · show b % 2 + 1 ≤ 2; omega
  · show 1280 * (j % 4) + 1280 ≤ 5120; omega
  · show 0 + 128 ≤ 128; omega
/-- Quarter `j` of the array's copy, batch `b`. -/
def quarter (b j : ℕ) : FVec F S1280x128 .fp8e5m2 :=
  shapeCast S1280x128 (arg9.view.readCov [⟨Rect.whole S2x5120x128, ReadAs.same.apply (View.read (Elt F) (Memref.whole main_v0).view fh0)⟩]
    (Rect.unit (s := S2x5120x128) ![b % 2, 1280 * (j % 4), 0] S1x1280x128.size (inbD b j)).toLoadRect : Vec F S1x1280x128 .fp8e5m2) shapeCasts_S1x1280x128_S1280x128
def both (j : ℕ) : FVec F S1280x256 .fp8e5m2 :=
  concatenate S1280x256 1 [⟨S1280x128, quarter c arg9 fh0 0 j⟩, ⟨S1280x128, quarter c arg9 fh0 1 j⟩] concatenates_S1280x128_S1280x128_S1280x256_d1
def dot (L : List (View.Piece (Elt F) S1920x1280 .bf16)) (k j : ℕ) : Vec F S1x384x256 .f32 :=
  shapeCast S1x384x256 (matmul dot_S384x1280_S1280x256_S384x256_1_0_0_1_n_n none
    (arg10.view.readCov L (Rect.unit (s := S1920x1280) ![384 * (k % 5), 0] S384x1280.size (inbB k)).toLoadRect : Vec F S384x1280 .bf16)
    (both c arg9 fh0 j) (constant S384x256 .f32 0x00000000#32)) shapeCasts_S384x256_S1x384x256

theorem inb2 (j : ℕ) : ∀ a, (![j % 4, 0, 0] : Fin 3 → ℕ) a + S1x384x256.size a ≤ S4x384x256.size a := by
  intro a; fin_cases a
  · show j % 4 + 1 ≤ 4; omega
  · show 0 + 384 ≤ 384; omega
  · show 0 + 256 ≤ 256; omega
abbrev P2 (L : List (View.Piece (Elt F) S1920x1280 .bf16)) (k j : ℕ) : View.Piece (Elt F) S4x384x256 .f32 :=
  ⟨Rect.unit (s := S4x384x256) ![j % 4, 0, 0] S1x384x256.size (inb2 j), dot c arg9 arg10 fh0 L k j⟩
/-- The stores of the first `k` chunks' products. -/
def L2 : ℕ → List (View.Piece (Elt F) S4x384x256 .f32)
  | 0 => []
  | k + 1 => P2 c arg9 arg10 fh0 (L1 arg2 harg2 arg3 harg3 arg4 harg4 arg5 harg5 x1 x2 x3 x4 (6 * (k % 5) + 6)) k 3
      :: P2 c arg9 arg10 fh0 (L1 arg2 harg2 arg3 harg3 arg4 harg4 arg5 harg5 x1 x2 x3 x4 (6 * (k % 5) + 6)) k 2
      :: P2 c arg9 arg10 fh0 (L1 arg2 harg2 arg3 harg3 arg4 harg4 arg5 harg5 x1 x2 x3 x4 (6 * (k % 5) + 6)) k 1
      :: P2 c arg9 arg10 fh0 (L1 arg2 harg2 arg3 harg3 arg4 harg4 arg5 harg5 x1 x2 x3 x4 (6 * (k % 5) + 6)) k 0 :: L2 k

/-! ## The codes and the scales -/

theorem inbL (h j n : ℕ) : ∀ a, (![j % 4, 192 * (h % 2) + 32 * (n % 30 % 6), 0] : Fin 3 → ℕ) a + S1x32x256.size a ≤ S4x384x256.size a := by
  intro a; fin_cases a
  · show j % 4 + 1 ≤ 4; omega
  · show 192 * (h % 2) + 32 * (n % 30 % 6) + 32 ≤ 384; omega
  · show 0 + 256 ≤ 256; omega
/-- Row block `n` of product `j`: the real (`h = 0`) or the imaginary rows. -/
def leaf (L : List (View.Piece (Elt F) S4x384x256 .f32)) (h j n : ℕ) : Vec F S1x32x256 .f32 :=
  arg11.view.readCov L
    (Rect.unit (s := S4x384x256) ![j % 4, 192 * (h % 2) + 32 * (n % 30 % 6), 0] S1x32x256.size (inbL h j n)).toLoadRect

def dys : F .f32 := View.readAt (Elt F) arg1.view (Rect.unit (s := S1) ![0] S1.size inb_S1_S1_0).toLoadRect (harg1.unread x0) (Shape.Idx.first (by decide))
def Yre (L : List (View.Piece (Elt F) S4x384x256 .f32)) (n : ℕ) : FVec F S32x256 .f32 :=
  yre (dys arg1 harg1 x0) (BitVec.ofNat 32 (32 * (n % 30)))
    (leaf arg11 L 0 0 n) (leaf arg11 L 0 1 n)
    (leaf arg11 L 0 2 n) (leaf arg11 L 0 3 n)
    (leaf arg11 L 1 1 n) (leaf arg11 L 1 3 n)
def Yim (L : List (View.Piece (Elt F) S4x384x256 .f32)) (n : ℕ) : FVec F S32x256 .f32 :=
  yim (dys arg1 harg1 x0) (BitVec.ofNat 32 (32 * (n % 30)))
    (leaf arg11 L 0 1 n) (leaf arg11 L 0 3 n)
    (leaf arg11 L 1 0 n) (leaf arg11 L 1 1 n)
    (leaf arg11 L 1 2 n) (leaf arg11 L 1 3 n)
def Ex (L : List (View.Piece (Elt F) S4x384x256 .f32)) (n : ℕ) : FVec F S32x256 .f32 := expo (Yre arg1 harg1 arg11 x0 L n) (Yim arg1 harg1 arg11 x0 L n)

theorem inb3 (p b n : ℕ) : ∀ a, (![p % 2, b % 2, 32 * (n % 30), 0] : Fin 4 → ℕ) a + S1x1x32x128.size a ≤ S2x2x960x128.size a := by
  intro a; fin_cases a
  · show p % 2 + 1 ≤ 2; omega
  · show b % 2 + 1 ≤ 2; omega
  · show 32 * (n % 30) + 32 ≤ 960; omega
  · show 0 + 128 ≤ 128; omega
abbrev box3 (p b n : ℕ) : Rect S2x2x960x128 := Rect.unit (s := S2x2x960x128) ![p % 2, b % 2, 32 * (n % 30), 0] S1x1x32x128.size (inb3 p b n)
/-- The four code blocks of row block `n` in front of the earlier ones. -/
def push3 (L : List (View.Piece (Elt F) S4x384x256 .f32)) (n : ℕ) (T : List (View.Piece (Elt F) S2x2x960x128 .fp8e5m2)) : List (View.Piece (Elt F) S2x2x960x128 .fp8e5m2) :=
  ⟨box3 1 1 n, half1 (code (Yim arg1 harg1 arg11 x0 L n) (Ex arg1 harg1 arg11 x0 L n))⟩ :: ⟨box3 0 1 n, half1 (code (Yre arg1 harg1 arg11 x0 L n) (Ex arg1 harg1 arg11 x0 L n))⟩
      :: ⟨box3 1 0 n, half0 (code (Yim arg1 harg1 arg11 x0 L n) (Ex arg1 harg1 arg11 x0 L n))⟩ :: ⟨box3 0 0 n, half0 (code (Yre arg1 harg1 arg11 x0 L n) (Ex arg1 harg1 arg11 x0 L n))⟩ :: T
def L3 : ℕ → List (View.Piece (Elt F) S2x2x960x128 .fp8e5m2)
  | 0 => []
  | n + 1 => push3 arg1 harg1 arg11 x0 (L2 c arg2 harg2 arg3 harg3 arg4 harg4 arg5 harg5 arg9 arg10 x1 x2 x3 x4 fh0 (n % 30 / 6 + 1)) n (L3 n)
theorem inb6 (n : ℕ) : ∀ a, (![32 * (n % 30), 0] : Fin 2 → ℕ) a + S32x128.size a ≤ S960x128.size a := by
  intro a; fin_cases a
  · show 32 * (n % 30) + 32 ≤ 960; omega
  · show 0 + 128 ≤ 128; omega
def push6 (L : List (View.Piece (Elt F) S4x384x256 .f32)) (n : ℕ) (T : List (View.Piece (Elt F) S960x128 .f32)) : List (View.Piece (Elt F) S960x128 .f32) :=
  ⟨Rect.unit (s := S960x128) ![32 * (n % 30), 0] S32x128.size (inb6 n), scale (Ex arg1 harg1 arg11 x0 L n)⟩ :: T
def L6 : ℕ → List (View.Piece (Elt F) S960x128 .f32)
  | 0 => []
  | n + 1 => push6 arg1 harg1 arg11 x0 (L2 c arg2 harg2 arg3 harg3 arg4 harg4 arg5 harg5 arg9 arg10 x1 x2 x3 x4 fh0 (n % 30 / 6 + 1)) n (L6 n)

end Run

end Cert.KernelIdeal.Dft
-- ==== Proof.Leaf.lean ====
/- What the basis holds and what one product of a chunk holds, as sums of the tables' and the array's entries. -/
module

public import proofs.«01_k».proof.Proof.Lists
public import Idealize.ShloMosaic.Lib.Pipeline.Value
public import Idealize.ShloMosaic.Lib.MatmulPlain
public import Idealize.ShloMosaic.Lib.WholeRead
public import Idealize.ShloMosaic.Lib.ValueIdxCoords

@[expose] public section

set_option maxRecDepth 16384
set_option maxHeartbeats 1000000

noncomputable section

namespace Cert.KernelIdeal.Dft

open Cert.KernelIdeal Cert.KernelIdeal.Gen
open Idealize.ShloMosaic Idealize.ShloMosaic.TcCoe Idealize.ShloMosaic.Tactic
open Idealize.ShloMosaic.ValueIdx

/-- An array's entry at natural coordinates (0 outside). -/
def at2 {M N : ℕ} (x : (⟨2, ![M, N]⟩ : Shape).Idx → EReal) (i k : ℕ) : EReal :=
  if h : i < M ∧ k < N then x (ix2 ⟨i, h.1⟩ ⟨k, h.2⟩) else 0
def at3 {L M N : ℕ} (x : (⟨3, ![L, M, N]⟩ : Shape).Idx → EReal) (b i k : ℕ) : EReal :=
  if h : b < L ∧ i < M ∧ k < N then x (ix3 ⟨b, h.1⟩ ⟨i, h.2.1⟩ ⟨k, h.2.2⟩) else 0
theorem at2_of {M N : ℕ} (x : (⟨2, ![M, N]⟩ : Shape).Idx → EReal) (y : (⟨2, ![M, N]⟩ : Shape).Idx) {i k : ℕ}
    (hi : (y 0).val = i) (hk : (y 1).val = k) : x y = at2 x i k := by
  subst hi hk
  rw [at2, dif_pos ⟨(y 0).isLt, (y 1).isLt⟩]
  exact congrArg x (eq_ix2 y)
theorem at3_of {L M N : ℕ} (x : (⟨3, ![L, M, N]⟩ : Shape).Idx → EReal) (y : (⟨3, ![L, M, N]⟩ : Shape).Idx) {b i k : ℕ}
    (hb : (y 0).val = b) (hi : (y 1).val = i) (hk : (y 2).val = k) : x y = at3 x b i k := by
  subst hb hi hk
  rw [at3, dif_pos ⟨(y 0).isLt, (y 1).isLt, (y 2).isLt⟩]
  exact congrArg x (eq_ix3 y)

/-- The basis: the real (`h = 0`) or the imaginary entry of mode `32 n + i` at place `k`, by angle addition. -/
def base (x1 x2 x3 x4 : S32x1280.Idx → EReal) (h n i k : ℕ) : EReal :=
  if h = 0 then at2 x3 n k * at2 x1 i k - at2 x4 n k * at2 x2 i k
  else 0 - (at2 x4 n k * at2 x1 i k + at2 x3 n k * at2 x2 i k)

section
variable (arg2 : Memref sig .tc .vmem S32x1280 .f32) (harg2 : arg2.IsWhole)
  (arg3 : Memref sig .tc .vmem S32x1280 .f32) (harg3 : arg3.IsWhole) (arg4 : Memref sig .tc .vmem S32x1280 .f32) (harg4 : arg4.IsWhole)
  (arg5 : Memref sig .tc .vmem S32x1280 .f32) (harg5 : arg5.IsWhole)
  (x1 : Vec Ideal S32x1280 .f32) (x2 : Vec Ideal S32x1280 .f32) (x3 : Vec Ideal S32x1280 .f32) (x4 : Vec Ideal S32x1280 .f32)

theorem coarse_at (arg : Memref sig .tc .vmem S32x1280 .f32) (harg : arg.IsWhole) (x : Vec Ideal S32x1280 .f32) (n : ℕ) (y : S32x1280.Idx) :
    coarse (F := Ideal) arg harg x n y = at2 (M := 32) (N := 1280) x (n % 30) (y 1).val := by
  unfold coarse
  refine (broadcastTo_apply _ _ y (ix2 (0 : Fin 1) (y 1)) ?_).trans ?_
  · intro a
    match a with
    | ⟨0, _⟩ => rfl
    | ⟨1, _⟩ => rfl
  · refine (harg.readAt_unread x _ _).trans ?_
    refine at2_of (M := 32) (N := 1280) x _ ?_ ?_
    · show n % 30 + 1 * 0 = _; omega
    · show 0 + 1 * (y 1).val = _; omega
theorem fine_at (arg : Memref sig .tc .vmem S32x1280 .f32) (harg : arg.IsWhole) (x : Vec Ideal S32x1280 .f32) (y : S32x1280.Idx) :
    fine (F := Ideal) arg harg x y = at2 (M := 32) (N := 1280) x (y 0).val (y 1).val := by
  unfold fine
  rw [Memref.IsWhole.readAt_unread]
  refine at2_of (M := 32) (N := 1280) x _ ?_ ?_
  · show 0 + 1 * (y 0).val = _; omega
  · show 0 + 1 * (y 1).val = _; omega

theorem basisRe_at (n : ℕ) (y : S32x1280.Idx) :
    basisRe (F := Ideal) arg2 harg2 arg3 harg3 arg4 harg4 arg5 harg5 x1 x2 x3 x4 n y = base x1 x2 x3 x4 0 (n % 30) (y 0).val (y 1).val := by
  unfold basisRe
  rw [shapeCast_self]
  show coarse (F := Ideal) arg4 harg4 x3 n y * fine (F := Ideal) arg2 harg2 x1 y - coarse (F := Ideal) arg5 harg5 x4 n y * fine (F := Ideal) arg3 harg3 x2 y = _
  rw [coarse_at, coarse_at, fine_at, fine_at, base, if_pos rfl]
theorem basisIm_at (n : ℕ) (y : S32x1280.Idx) :
    basisIm (F := Ideal) arg2 harg2 arg3 harg3 arg4 harg4 arg5 harg5 x1 x2 x3 x4 n y = base x1 x2 x3 x4 1 (n % 30) (y 0).val (y 1).val := by
  unfold basisIm
  rw [shapeCast_self]
  show Ideal.ofBits .f32 0x00000000#32 - (coarse (F := Ideal) arg5 harg5 x4 n y * fine (F := Ideal) arg2 harg2 x1 y + coarse (F := Ideal) arg4 harg4 x3 n y * fine (F := Ideal) arg3 harg3 x2 y) = _
  rw [coarse_at, coarse_at, fine_at, fine_at, base, if_neg (by decide), Ideal.ofBits_zero_f32]

/-- The basis as one array: rows of chunk `k`, first the real, then the imaginary ones. -/
def G1 (y : S1920x1280.Idx) : EReal :=
  base x1 x2 x3 x4 ((y 0).val % 384 / 192) (6 * ((y 0).val / 384) + (y 0).val % 192 / 32) ((y 0).val % 32) (y 1).val

theorem L1_pieces : ∀ N, N ≤ 30 → ∀ p ∈ L1 (F := Ideal) arg2 harg2 arg3 harg3 arg4 harg4 arg5 harg5 x1 x2 x3 x4 N,
    ∀ x : p.1.shape.Idx, p.2 x = G1 x1 x2 x3 x4 (p.1.emb x)
  | 0, _, p, hp, _ => by simp [L1] at hp
  | n + 1, hn, p, hp, x => by
    unfold L1 at hp
    have hm : n % 30 = n := Nat.mod_eq_of_lt (by omega)
    rcases List.mem_cons.1 hp with rfl | hp
    · have hx0 : (x 0).val < 32 := (x 0).isLt
      have e0 : ((Rect.unit (s := S1920x1280) ![384 * (n % 30 / 6) + 192 * (1 % 2) + 32 * (n % 30 % 6), 0] S32x1280.size (inb1 n 1)).emb x 0).val
          = 384 * (n % 30 / 6) + 192 * (1 % 2) + 32 * (n % 30 % 6) + 1 * (x 0).val := rfl
      have e1 : ((Rect.unit (s := S1920x1280) ![384 * (n % 30 / 6) + 192 * (1 % 2) + 32 * (n % 30 % 6), 0] S32x1280.size (inb1 n 1)).emb x 1).val
          = 0 + 1 * (x 1).val := rfl
      refine (basisIm_at arg2 harg2 arg3 harg3 arg4 harg4 arg5 harg5 x1 x2 x3 x4 n x).trans ?_
      unfold G1
      rw [e0, e1]
      congr 1 <;> omega
    rcases List.mem_cons.1 hp with rfl | hp
    · have hx0 : (x 0).val < 32 := (x 0).isLt
      have e0 : ((Rect.unit (s := S1920x1280) ![384 * (n % 30 / 6) + 192 * (0 % 2) + 32 * (n % 30 % 6), 0] S32x1280.size (inb1 n 0)).emb x 0).val
          = 384 * (n % 30 / 6) + 192 * (0 % 2) + 32 * (n % 30 % 6) + 1 * (x 0).val := rfl
      have e1 : ((Rect.unit (s := S1920x1280) ![384 * (n % 30 / 6) + 192 * (0 % 2) + 32 * (n % 30 % 6), 0] S32x1280.size (inb1 n 0)).emb x 1).val
          = 0 + 1 * (x 1).val := rfl
      refine (basisRe_at arg2 harg2 arg3 harg3 arg4 harg4 arg5 harg5 x1 x2 x3 x4 n x).trans ?_
      unfold G1
      rw [e0, e1]
      congr 1 <;> omega
    · exact L1_pieces n (by omega) p hp x

theorem L1_cover : ∀ N, N ≤ 30 → ∀ y : S1920x1280.Idx, 6 * ((y 0).val / 384) + (y 0).val % 192 / 32 < N →
    ∃ p ∈ L1 (F := Ideal) arg2 harg2 arg3 harg3 arg4 harg4 arg5 harg5 x1 x2 x3 x4 N, y ∈ p.1.set
  | 0, _, y, h => absurd h (by omega)
  | n + 1, hn, y, h => by
    have hm : n % 30 = n := Nat.mod_eq_of_lt (by omega)
    have hy1 : (y 1).val < 1280 := (y 1).isLt
    by_cases hlt : 6 * ((y 0).val / 384) + (y 0).val % 192 / 32 < n
    · obtain ⟨p, hp, hy⟩ := L1_cover n (by omega) y hlt
      refine ⟨p, ?_, hy⟩
      unfold L1
      exact List.mem_cons_of_mem _ (List.mem_cons_of_mem _ hp)
    · unfold L1
      by_cases hh : (y 0).val % 384 / 192 = 1
      · refine ⟨_, List.mem_cons_self, ?_⟩
        rw [Rect.mem_set_unit]
        intro a
        match a with
        | ⟨0, _⟩ =>
          show 384 * (n % 30 / 6) + 192 * (1 % 2) + 32 * (n % 30 % 6) ≤ (y 0).val ∧ (y 0).val < 384 * (n % 30 / 6) + 192 * (1 % 2) + 32 * (n % 30 % 6) + 32
          rw [hm]; omega
        | ⟨1, _⟩ => show 0 ≤ (y 1).val ∧ (y 1).val < 0 + 1280; omega
      · refine ⟨_, List.mem_cons_of_mem _ List.mem_cons_self, ?_⟩
        rw [Rect.mem_set_unit]
        intro a
        match a with
        | ⟨0, _⟩ =>
          show 384 * (n % 30 / 6) + 192 * (0 % 2) + 32 * (n % 30 % 6) ≤ (y 0).val ∧ (y 0).val < 384 * (n % 30 / 6) + 192 * (0 % 2) + 32 * (n % 30 % 6) + 32
          rw [hm]; omega
        | ⟨1, _⟩ => show 0 ≤ (y 1).val ∧ (y 1).val < 0 + 1280; omega

variable (c : Dev nD) (arg9 : Memref sig .tc .vmem S2x5120x128 .fp8e5m2)
  (arg10 : Memref sig .tc .vmem S1920x1280 .bf16) (arg11 : Memref sig .tc .vmem S4x384x256 .f32) (fh0 : HbBuf0 (F := Ideal) c hbM0_0)

/-- The array the copy brings in. -/
def dyArr : S2x5120x128.Idx → EReal := View.read (Elt Ideal) (Memref.whole main_v0).view fh0

theorem quarter_at (b j : ℕ) (hb : b < 2) (hj : j < 4) (y : S1280x128.Idx) :
    quarter (F := Ideal) c arg9 fh0 b j y = at3 (L := 2) (M := 5120) (N := 128) (dyArr c fh0) b (1280 * j + (y 0).val) (y 1).val := by
  unfold quarter
  refine (shapeCast_apply _ _ y (ix3 (0 : Fin 1) (y 0) (y 1)) ?_).trans ?_
  · rw [Shape.rowMajor_val_three, Shape.rowMajor_val_two]
    show (0 * 1280 + (y 0).val) * 128 + (y 1).val = (y 0).val * 128 + (y 1).val
    omega
  · rw [View.readCov_eq_canon']
    show View.canon _ _ = _
    have h := View.canon_cons_emb (Val := Elt Ideal) (Rect.whole S2x5120x128) (ReadAs.same.apply (View.read (Elt Ideal) (Memref.whole main_v0).view fh0)) []
      ((Rect.unit (s := S2x5120x128) ![b % 2, 1280 * (j % 4), 0] S1x1280x128.size (inbD b j)).toLoadRect.idx (ix3 (0 : Fin 1) (y 0) (y 1)))
    have hw : ∀ z : S2x5120x128.Idx, (Rect.whole S2x5120x128).emb z = z := by
      intro z; funext a; apply Fin.ext
      show 0 + 1 * (z a).val = (z a).val
      omega
    refine (congrArg _ (hw _).symm).trans (h.trans ?_)
    refine at3_of (L := 2) (M := 5120) (N := 128) (dyArr c fh0) _ ?_ ?_ ?_
    · show b % 2 + 1 * 0 = b; omega
    · show 1280 * (j % 4) + 1 * (y 0).val = _; omega
    · show 0 + 1 * (y 1).val = _; omega

theorem both_at (j : ℕ) (hj : j < 4) (y : S1280x256.Idx) :
    both (F := Ideal) c arg9 fh0 j y
      = at3 (L := 2) (M := 5120) (N := 128) (dyArr c fh0) ((y 1).val / 128) (1280 * j + (y 0).val) ((y 1).val % 128) := by
  unfold both
  have h1 : (y 1).val < 256 := (y 1).isLt
  by_cases h : (y 1).val < 128
  · refine (concatenate_pair_apply_left (s₁ := S1280x128) (s₂ := S1280x128) (1 : Fin 2) _ _ _ y rfl (ix2 (n0 := 1280) (n1 := 128) (y 0) ⟨(y 1).val, h⟩) ?_).trans ?_
    · intro a
      match a with
      | ⟨0, _⟩ => rfl
      | ⟨1, _⟩ => rfl
    · rw [quarter_at c arg9 fh0 0 j (by omega) hj]
      show at3 _ 0 (1280 * j + (y 0).val) (y 1).val = _
      congr 1 <;> omega
  · refine (concatenate_pair_apply_right (s₁ := S1280x128) (s₂ := S1280x128) (1 : Fin 2) _ _ _ y rfl rfl (ix2 (n0 := 1280) (n1 := 128) (y 0) ⟨(y 1).val - 128, by omega⟩) ?_ ?_).trans ?_
    · intro a ha
      match a with
      | ⟨0, _⟩ => rfl
      | ⟨1, _⟩ => exact absurd rfl ha
    · show (y 1).val - 128 + 128 = (y 1).val; omega
    · rw [quarter_at c arg9 fh0 1 j (by omega) hj]
      show at3 _ 1 (1280 * j + (y 0).val) ((y 1).val - 128) = _
      congr 1 <;> omega

/-- One quarter's sum: mode `32 n + i`, column `q` of the two batches side by side. -/
def part (D : S2x5120x128.Idx → EReal) (h j n i q : ℕ) : EReal :=
  ∑ k : Fin 1280, base x1 x2 x3 x4 h n i k.val * at3 (L := 2) (M := 5120) (N := 128) D (q / 128) (1280 * j + k.val) (q % 128)

theorem dot_at (k j : ℕ) (hk : k < 5) (hj : j < 4) (y : S1x384x256.Idx) :
    dot (F := Ideal) c arg9 arg10 fh0 (L1 (F := Ideal) arg2 harg2 arg3 harg3 arg4 harg4 arg5 harg5 x1 x2 x3 x4 (6 * (k % 5) + 6)) k j y
      = part x1 x2 x3 x4 (dyArr c fh0) ((y 1).val / 192) j (6 * k + (y 1).val % 192 / 32) ((y 1).val % 32) (y 2).val := by
  have hy1 : (y 1).val < 384 := (y 1).isLt
  have hy0 : (y 0).val < 1 := (y 0).isLt
  unfold dot
  refine (shapeCast_apply _ _ y (ix2 (y 1) (y 2)) ?_).trans ?_
  · rw [Shape.rowMajor_val_three, Shape.rowMajor_val_two]
    show (y 1).val * 256 + (y 2).val = ((y 0).val * 384 + (y 1).val) * 256 + (y 2).val
    omega
  · refine (Ideal.matmul_plain_apply (M := 384) (K := 1280) (N := 256) none _ _ _ (y 1) (y 2)).trans ?_
    have hz : (constant (F := Ideal) S384x256 .f32 0x00000000#32 : FVec Ideal S384x256 .f32) (ix2 (y 1) (y 2)) = 0 := Ideal.ofBits_zero_f32
    rw [hz, zero_add]
    unfold part
    refine Finset.sum_congr rfl fun q _ => ?_
    rw [both_at c arg9 fh0 j hj]
    refine congrArg₂ (· * ·) ?_ rfl
    rw [View.readCov_eq_canon']
    have e0 : ((Rect.unit (s := S1920x1280) ![384 * (k % 5), 0] S384x1280.size (inbB k)).toLoadRect.idx (ix2 (y 1) q) 0).val = 384 * (k % 5) + 1 * (y 1).val := rfl
    have e1 : ((Rect.unit (s := S1920x1280) ![384 * (k % 5), 0] S384x1280.size (inbB k)).toLoadRect.idx (ix2 (y 1) q) 1).val = 0 + 1 * q.val := rfl
    refine (View.canon_apply_of_pieces (G1 x1 x2 x3 x4) _ (L1_pieces arg2 harg2 arg3 harg3 arg4 harg4 arg5 harg5 x1 x2 x3 x4 _ (by omega)) _
      (L1_cover arg2 harg2 arg3 harg3 arg4 harg4 arg5 harg5 x1 x2 x3 x4 _ (by omega) _ ?_)).trans ?_
    · rw [e0]; omega
    · unfold G1
      rw [e0, e1]
      congr 1 <;> omega

theorem leaf_at (h j n : ℕ) (hh : h < 2) (hj : j < 4) (hn : n < 30) (y : S1x32x256.Idx) :
    leaf (F := Ideal) arg11 (L2 (F := Ideal) c arg2 harg2 arg3 harg3 arg4 harg4 arg5 harg5 arg9 arg10 x1 x2 x3 x4 fh0 (n % 30 / 6 + 1)) h j n y
      = part x1 x2 x3 x4 (dyArr c fh0) h j n (y 1).val (y 2).val := by
  have hy1 : (y 1).val < 32 := (y 1).isLt
  have hy0 : (y 0).val < 1 := (y 0).isLt
  have hy2 : (y 2).val < 256 := (y 2).isLt
  unfold leaf
  rw [View.readCov_eq_canon']
  show View.canon _ ((Rect.unit (s := S4x384x256) ![j % 4, 192 * (h % 2) + 32 * (n % 30 % 6), 0] S1x32x256.size (inbL h j n)).toLoadRect.idx y) = _
  generalize hz : (Rect.unit (s := S4x384x256) ![j % 4, 192 * (h % 2) + 32 * (n % 30 % 6), 0] S1x32x256.size (inbL h j n)).toLoadRect.idx y = z
  have e0 : (z 0).val = j % 4 + 1 * (y 0).val := by rw [← hz]; rfl
  have e1 : (z 1).val = 192 * (h % 2) + 32 * (n % 30 % 6) + 1 * (y 1).val := by rw [← hz]; rfl
  have e2 : (z 2).val = 0 + 1 * (y 2).val := by rw [← hz]; rfl
  have hit : ∀ (i : ℕ) (hi : i < 4) (hij : (z 0).val = i) (T : List (View.Piece (Elt Ideal) S4x384x256 .f32)),
      View.canon (P2 (F := Ideal) c arg9 arg10 fh0 (L1 (F := Ideal) arg2 harg2 arg3 harg3 arg4 harg4 arg5 harg5 x1 x2 x3 x4 (6 * ((n % 30 / 6) % 5) + 6)) (n % 30 / 6) i :: T) z
        = part x1 x2 x3 x4 (dyArr c fh0) h j n (y 1).val (y 2).val := by
    intro i hi hij T
    have hzi : z = (Rect.unit (s := S4x384x256) ![i % 4, 0, 0] S1x384x256.size (inb2 i)).emb (ix3 (0 : Fin 1) (z 1) (z 2)) := by
      funext a
      apply Fin.ext
      match a with
      | ⟨0, _⟩ => show (z 0).val = i % 4 + 1 * 0; omega
      | ⟨1, _⟩ => show (z 1).val = 0 + 1 * (z 1).val; omega
      | ⟨2, _⟩ => show (z 2).val = 0 + 1 * (z 2).val; omega
    rw [hzi, View.canon_cons_emb]
    refine (dot_at arg2 harg2 arg3 harg3 arg4 harg4 arg5 harg5 x1 x2 x3 x4 c arg9 arg10 fh0 (n % 30 / 6) i (by omega) hi _).trans ?_
    show part x1 x2 x3 x4 (dyArr c fh0) ((z 1).val / 192) i (6 * (n % 30 / 6) + (z 1).val % 192 / 32) ((z 1).val % 32) (z 2).val = _
    rw [e1, e2]
    congr 1 <;> omega
  have miss : ∀ (i : ℕ) (hi : i < 4) (hij : (z 0).val ≠ i) (T : List (View.Piece (Elt Ideal) S4x384x256 .f32)) (L : List (View.Piece (Elt Ideal) S1920x1280 .bf16)) (k : ℕ),
      View.canon (P2 (F := Ideal) c arg9 arg10 fh0 L k i :: T) z = View.canon T z := by
    intro i hi hij T L k
    refine View.canon_cons_of_not_mem _ T ?_
    rw [Rect.mem_set_unit]
    intro hc
    have := hc 0
    have h1 : i % 4 ≤ (z 0).val := this.1
    have h2 : (z 0).val < i % 4 + 1 := this.2
    omega
  unfold L2
  by_cases h3 : (z 0).val = 3
  · exact hit 3 (by omega) h3 _
  rw [miss 3 (by omega) h3]
  by_cases h2 : (z 0).val = 2
  · exact hit 2 (by omega) h2 _
  rw [miss 2 (by omega) h2]
  by_cases h1 : (z 0).val = 1
  · exact hit 1 (by omega) h1 _
  rw [miss 1 (by omega) h1]
  exact hit 0 (by omega) (by omega) _

end

end Cert.KernelIdeal.Dft
-- ==== Proof.Value.lean ====
/- What one row block of the kernel computes, entry by entry. -/
module

public import proofs.«01_k».proof.Proof.Leaf
public import Idealize.ShloMosaic.Lib.IdealHost

@[expose] public section

set_option maxRecDepth 16384
set_option maxHeartbeats 1000000

noncomputable section

namespace Cert.KernelIdeal.Dft

open Cert.KernelIdeal Cert.KernelIdeal.Gen
open Idealize.ShloMosaic Idealize.ShloMosaic.TcCoe Idealize.ShloMosaic.Tactic
open Idealize.ShloMosaic.ValueIdx

/-- The quarter shifts' factors of mode `m`. -/
def al (m : ℕ) : EReal := if m % 4 = 0 then 1 else if m % 4 = 2 then 0 - 1 else 0
def be (m : ℕ) : EReal := if m % 4 = 1 then 1 else if m % 4 = 3 then 0 - 1 else 0
def sg (m : ℕ) : EReal := if m % 2 = 0 then 1 else 0 - 1
/-- The factor of mode `m`: the array's scale times 1/5120 or 2/5120. -/
def cf (r : EReal) (m : ℕ) : EReal :=
  r * Ideal.div (if m = 0 then 1 else Ideal.ofBits .f32 0x40000000#32) (Ideal.ofBits .f32 0x45A00000#32)

theorem row_at (n : ℕ) (y : S32x256.Idx) : row (BitVec.ofNat 32 (32 * n)) y = BitVec.ofNat 32 (32 * n + (y 0).val) := by
  show BitVec.ofNat 32 (32 * n) + iota .tc S32x256 32 [0] iota_S32x256_d0_w32 y = _
  rw [iota_single_apply, ← BitVec.ofNat_add]
theorem low_at (n : ℕ) (y : S32x256.Idx) : low (BitVec.ofNat 32 (32 * n)) y = BitVec.ofNat 32 ((32 * n + (y 0).val) % 4) := by
  show row (BitVec.ofNat 32 (32 * n)) y &&& 3#32 = _
  rw [row_at]
  have h4 : (BitVec.ofNat 32 ((32 * n + (y 0).val) % 4)).toNat = (32 * n + (y 0).val) % 4 := by rw [BitVec.toNat_ofNat]; omega
  apply BitVec.eq_of_toNat_eq
  rw [h4, BitVec.toNat_and, BitVec.toNat_ofNat]
  show (32 * n + (y 0).val) % 2 ^ 32 &&& 2 ^ 2 - 1 = _
  rw [Nat.and_two_pow_sub_one_eq_mod]
  omega

theorem one_at : (one (F := Ideal)) = (1 : EReal) := Ideal.ofBits_one_f32
theorem zero_at : (zero (F := Ideal)) = (0 : EReal) := Ideal.ofBits_zero_f32
theorem minus_at : (Scalar.subf (zero (F := Ideal)) one : EReal) = 0 - 1 := by
  show (zero (F := Ideal) : EReal) - one (F := Ideal) = _
  rw [one_at, zero_at]

theorem select_at {s : Shape} {α : Type} (c : IVec s 1) (a b : s.Idx → α) (y : s.Idx) : select c a b y = if c y = 1#1 then a y else b y := rfl
theorem cmpi_eq_at {s : Shape} (a b : IVec s 32) (y : s.Idx) : (cmpi .eq a b y = 1#1) ↔ a y = b y := by
  show (BitVec.ofBool (a y == b y) = 1#1) ↔ _
  by_cases h : a y = b y
  · rw [h]; simp
  · rw [beq_false_of_ne h]; simp [h]

theorem alpha_at (n : ℕ) (y : S32x256.Idx) : alpha (F := Ideal) (BitVec.ofNat 32 (32 * n)) y = al (32 * n + (y 0).val) := by
  unfold alpha al
  rw [select_at, select_at]
  simp only [cmpi_eq_at, low_at]
  have h : (32 * n + (y 0).val) % 4 < 4 := Nat.mod_lt _ (by decide)
  generalize (32 * n + (y 0).val) % 4 = r at h
  show (if BitVec.ofNat 32 r = 0#32 then (one (F := Ideal) : EReal) else if BitVec.ofNat 32 r = 2#32 then Scalar.subf (zero (F := Ideal)) one else zero (F := Ideal)) = _
  rw [minus_at, one_at, zero_at]
  interval_cases r <;> simp
theorem beta_at (n : ℕ) (y : S32x256.Idx) : beta (F := Ideal) (BitVec.ofNat 32 (32 * n)) y = be (32 * n + (y 0).val) := by
  unfold beta be
  rw [select_at, select_at]
  simp only [cmpi_eq_at, low_at]
  have h : (32 * n + (y 0).val) % 4 < 4 := Nat.mod_lt _ (by decide)
  generalize (32 * n + (y 0).val) % 4 = r at h
  show (if BitVec.ofNat 32 r = 1#32 then (one (F := Ideal) : EReal) else if BitVec.ofNat 32 r = 3#32 then Scalar.subf (zero (F := Ideal)) one else zero (F := Ideal)) = _
  rw [minus_at, one_at, zero_at]
  interval_cases r <;> simp
theorem sigma_at (n : ℕ) (y : S32x256.Idx) : sigma (F := Ideal) (BitVec.ofNat 32 (32 * n)) y = sg (32 * n + (y 0).val) := by
  unfold sigma sg
  rw [select_at]
  have h2 : (32 * n + (y 0).val) % 2 = (32 * n + (y 0).val) % 4 % 2 := by omega
  rw [h2]
  have e : (cmpi .eq (andi (low (BitVec.ofNat 32 (32 * n))) (bi 1#32)) (bi 0#32) y = 1#1)
      ↔ (BitVec.ofNat 32 ((32 * n + (y 0).val) % 4) &&& 1#32 = 0#32) := by
    rw [cmpi_eq_at]
    show (low (BitVec.ofNat 32 (32 * n)) y &&& 1#32 = 0#32) ↔ _
    rw [low_at]
  simp only [e]
  have h : (32 * n + (y 0).val) % 4 < 4 := Nat.mod_lt _ (by decide)
  generalize (32 * n + (y 0).val) % 4 = r at h
  show (if BitVec.ofNat 32 r &&& 1#32 = 0#32 then (one (F := Ideal) : EReal) else Scalar.subf (zero (F := Ideal)) one) = _
  rw [minus_at, one_at]
  interval_cases r <;> simp
theorem coef_at (r : EReal) (n : ℕ) (hn : n < 30) (y : S32x256.Idx) : coef (F := Ideal) r (BitVec.ofNat 32 (32 * n)) y = cf r (32 * n + (y 0).val) := by
  have h0 : (y 0).val < 32 := (y 0).isLt
  unfold coef cf
  show r * Ideal.div (select (cmpi .eq (row (BitVec.ofNat 32 (32 * n))) (bi 0#32)) (bf (F := Ideal) one) (bf (F := Ideal) (Ideal.ofBits .f32 0x40000000#32)) y) (Ideal.ofBits .f32 0x45A00000#32) = _
  rw [select_at]
  simp only [cmpi_eq_at, row_at]
  have e : (BitVec.ofNat 32 (32 * n + (y 0).val) = (bi 0#32 : IVec S32x256 32) y) ↔ (32 * n + (y 0).val = 0) := by
    constructor
    · intro h
      have := congrArg BitVec.toNat h
      rw [BitVec.toNat_ofNat] at this
      have h' : (32 * n + (y 0).val) % 2 ^ 32 = 0 := this
      omega
    · intro h; rw [h]; rfl
  simp only [e]
  show r * Ideal.div (if 32 * n + (y 0).val = 0 then (one (F := Ideal) : EReal) else Ideal.ofBits .f32 0x40000000#32) (Ideal.ofBits .f32 0x45A00000#32) = _
  rw [one_at]
theorem flat_at (x : Vec Ideal S1x32x256 .f32) (y : S32x256.Idx) : flat (F := Ideal) x y = x (ix3 (0 : Fin 1) (y 0) (y 1)) := by
  unfold flat
  refine shapeCast_apply _ _ y _ ?_
  rw [Shape.rowMajor_val_three, Shape.rowMajor_val_two]
  show (0 * 32 + (y 0).val) * 256 + (y 1).val = (y 0).val * 256 + (y 1).val
  omega
theorem join_at (n : ℕ) (u v : Vec Ideal S1x32x256 .f32) (y : S32x256.Idx) :
    join (F := Ideal) (BitVec.ofNat 32 (32 * n)) u v y = u (ix3 (0 : Fin 1) (y 0) (y 1)) + sg (32 * n + (y 0).val) * v (ix3 (0 : Fin 1) (y 0) (y 1)) := by
  show flat (F := Ideal) u y + sigma (F := Ideal) (BitVec.ofNat 32 (32 * n)) y * flat (F := Ideal) v y = _
  rw [flat_at, flat_at, sigma_at]

/-! ## The quantiser, entry by entry -/

def rowMax (u v : ℕ → EReal) : EReal := (Finset.univ : Finset (Fin 256)).fold max (Ideal.ofBits .f32 0xFF800000#32)
  (fun q => max (max (u q.val) (-(u q.val))) (max (v q.val) (-(v q.val))))
/-- The exponent from the row's maximum times 1/57344. -/
def exOf (t : EReal) : EReal :=
  if t = 0 then 0 else Ideal.liftRound Int.floor (Ideal.log t * Named.named (F := Ideal) κ "inv_ln_two" (φ := .f32) 0x3FB8AA3B#32) + 1
def clip (y e : EReal) : EReal :=
  min (Ideal.ofBits .f32 0x47600000#32) (max (Ideal.ofBits .f32 0xC7600000#32) (y * Ideal.exp2 (0 - e)))

theorem top_at (u v : FVec Ideal S32x256 .f32) (f g : ℕ → ℕ → EReal) (hu : ∀ y : S32x256.Idx, u y = f (y 0).val (y 1).val)
    (hv : ∀ y : S32x256.Idx, v y = g (y 0).val (y 1).val) (y : S32x256.Idx) :
    top (F := Ideal) u v y = rowMax (f (y 0).val) (g (y 0).val) * Ideal.ofBits .f32 0x37924925#32 := by
  unfold top
  refine (broadcastTo_apply _ _ y (ix2 (n0 := 32) (n1 := 1) (y 0) 0) ?_).trans ?_
  · intro a
    match a with
    | ⟨0, _⟩ => rfl
    | ⟨1, _⟩ => rfl
  rw [shapeCast_self]
  refine congrArg (· * Ideal.ofBits .f32 0x37924925#32) ?_
  refine (shapeCast_apply _ _ (ix2 (n0 := 32) (n1 := 1) (y 0) 0) (ix1 (n := 32) (y 0)) ?_).trans ?_
  · rw [Shape.rowMajor_val_one, Shape.rowMajor_val_two]
    show (y 0).val = (y 0).val * 1 + 0
    omega
  refine (Ideal.multiReduction_maximumf_single (s := S32x256) (t := S32) (a := 1) _ _ reduces_S32x256_S32 _ _ (ix1 (n := 32) (y 0))).trans ?_
  unfold rowMax
  refine congrArg (fun F => (Finset.univ : Finset (Fin 256)).fold max (Ideal.ofBits .f32 0xFF800000#32) F) (funext fun q => ?_)
  show max (max (u _) (-(u _))) (max (v _) (-(v _))) = _
  rw [hu, hv]
  rfl

theorem cmpf_oeq_at {s : Shape} (a b : FVec Ideal s .f32) (y : s.Idx) : (cmpf .oeq a b y = 1#1) ↔ (a y : EReal) = b y := by
  show ((Ideal.cmp .oeq (a y) (b y)) = 1#1) ↔ _
  unfold Ideal.cmp
  by_cases h : (a y : EReal) = b y <;> simp [h]

theorem expo_at (u v : FVec Ideal S32x256 .f32) (f g : ℕ → ℕ → EReal) (hu : ∀ y : S32x256.Idx, u y = f (y 0).val (y 1).val)
    (hv : ∀ y : S32x256.Idx, v y = g (y 0).val (y 1).val) (y : S32x256.Idx) :
    expo (F := Ideal) u v y = exOf (rowMax (f (y 0).val) (g (y 0).val) * Ideal.ofBits .f32 0x37924925#32) := by
  unfold expo exOf
  rw [select_at]
  simp only [cmpf_oeq_at]
  show (if (top (F := Ideal) u v y : EReal) = (zero (F := Ideal) : EReal) then (zero (F := Ideal) : EReal) else
    Ideal.liftRound Int.floor (Ideal.log (top (F := Ideal) u v y) * Named.named (F := Ideal) κ "inv_ln_two" (φ := .f32) 0x3FB8AA3B#32) + one (F := Ideal)) = _
  rw [zero_at, one_at, top_at u v f g hu hv]

theorem code_at (u e : FVec Ideal S32x256 .f32) (y : S32x256.Idx) : (code (F := Ideal) u e y : EReal) = clip (u y) (e y) := by
  show min (Ideal.ofBits .f32 0x47600000#32) (max (Ideal.ofBits .f32 0xC7600000#32) (u y * Ideal.exp2 ((zero (F := Ideal) : EReal) - e y))) = _
  rw [zero_at]; rfl

theorem half0_at (u : FVec Ideal S32x256 .fp8e5m2) (y : S1x1x32x128.Idx) : half0 (F := Ideal) u y = u (ix2 (n0 := 32) (n1 := 256) (y 2) ⟨(y 3).val, by have : (y 3).val < 128 := (y 3).isLt; omega⟩) := by
  have h0 : (y 0).val < 1 := (y 0).isLt
  have h1 : (y 1).val < 1 := (y 1).isLt
  unfold half0
  refine (shapeCast_apply _ _ y (ix2 (n0 := 32) (n1 := 128) (y 2) (y 3)) ?_).trans ?_
  · rw [Shape.rowMajor_val_four, Shape.rowMajor_val_two]
    show (y 2).val * 128 + (y 3).val = (((y 0).val * 1 + (y 1).val) * 32 + (y 2).val) * 128 + (y 3).val
    omega
  refine extractStridedSlice_apply _ _ _ _ _ ?_
  intro a
  match a with
  | ⟨0, _⟩ => show (y 2).val = 0 + (y 2).val; omega
  | ⟨1, _⟩ => show (y 3).val = 0 + (y 3).val; omega
theorem half1_at (u : FVec Ideal S32x256 .fp8e5m2) (y : S1x1x32x128.Idx) : half1 (F := Ideal) u y = u (ix2 (n0 := 32) (n1 := 256) (y 2) ⟨128 + (y 3).val, by have : (y 3).val < 128 := (y 3).isLt; omega⟩) := by
  have h0 : (y 0).val < 1 := (y 0).isLt
  have h1 : (y 1).val < 1 := (y 1).isLt
  unfold half1
  refine (shapeCast_apply _ _ y (ix2 (n0 := 32) (n1 := 128) (y 2) (y 3)) ?_).trans ?_
  · rw [Shape.rowMajor_val_four, Shape.rowMajor_val_two]
    show (y 2).val * 128 + (y 3).val = (((y 0).val * 1 + (y 1).val) * 32 + (y 2).val) * 128 + (y 3).val
    omega
  refine extractStridedSlice_apply _ _ _ _ _ ?_
  intro a
  match a with
  | ⟨0, _⟩ => show (y 2).val = 0 + (y 2).val; omega
  | ⟨1, _⟩ => show 128 + (y 3).val = 128 + (y 3).val; omega
theorem scale_at (e : FVec Ideal S32x256 .f32) (y : S32x128.Idx) : scale (F := Ideal) e y = Ideal.exp2 (e (ix2 (n0 := 32) (n1 := 256) (y 0) ⟨(y 1).val, by have : (y 1).val < 128 := (y 1).isLt; omega⟩)) := by
  unfold scale
  rw [shapeCast_self]
  refine extractStridedSlice_apply _ _ _ _ (ix2 (n0 := 32) (n1 := 256) (y 0) ⟨(y 1).val, by have : (y 1).val < 128 := (y 1).isLt; omega⟩) ?_
  intro a
  match a with
  | ⟨0, _⟩ => show (y 0).val = 0 + (y 0).val; omega
  | ⟨1, _⟩ => show (y 1).val = 0 + (y 1).val; omega

/-! ## The two parts of a mode -/

section
variable (x1 x2 x3 x4 : S32x1280.Idx → EReal) (D : S2x5120x128.Idx → EReal) (r : EReal)

/-- The real (`h = 0`) and the imaginary rows' even and odd quarters. -/
def ev (h n i q : ℕ) : EReal := part x1 x2 x3 x4 D h 0 n i q + sg (32 * n + i) * part x1 x2 x3 x4 D h 2 n i q
def od (h n i q : ℕ) : EReal := part x1 x2 x3 x4 D h 1 n i q + sg (32 * n + i) * part x1 x2 x3 x4 D h 3 n i q
/-- The real part of mode `32 n + i` in column `q`, times the mode's factor. -/
def reOf (n i q : ℕ) : EReal :=
  ((ev x1 x2 x3 x4 D 0 n i q + al (32 * n + i) * od x1 x2 x3 x4 D 0 n i q) + be (32 * n + i) * od x1 x2 x3 x4 D 1 n i q) * cf r (32 * n + i)
def imOf (n i q : ℕ) : EReal :=
  ((ev x1 x2 x3 x4 D 1 n i q + al (32 * n + i) * od x1 x2 x3 x4 D 1 n i q) - be (32 * n + i) * od x1 x2 x3 x4 D 0 n i q) * cf r (32 * n + i)

end

section
variable (c : Dev nD) (arg1 : Memref sig .tc .smem S1 .f32) (harg1 : arg1.IsWhole) (arg2 : Memref sig .tc .vmem S32x1280 .f32) (harg2 : arg2.IsWhole)
  (arg3 : Memref sig .tc .vmem S32x1280 .f32) (harg3 : arg3.IsWhole) (arg4 : Memref sig .tc .vmem S32x1280 .f32) (harg4 : arg4.IsWhole)
  (arg5 : Memref sig .tc .vmem S32x1280 .f32) (harg5 : arg5.IsWhole) (arg9 : Memref sig .tc .vmem S2x5120x128 .fp8e5m2)
  (arg10 : Memref sig .tc .vmem S1920x1280 .bf16) (arg11 : Memref sig .tc .vmem S4x384x256 .f32)
  (x0 : Vec Ideal S1 .f32) (x1 : Vec Ideal S32x1280 .f32) (x2 : Vec Ideal S32x1280 .f32) (x3 : Vec Ideal S32x1280 .f32) (x4 : Vec Ideal S32x1280 .f32)
  (fh0 : HbBuf0 (F := Ideal) c hbM0_0)

/-- The chunks' products up to row block `n`'s own. -/
abbrev LL (n : ℕ) := L2 (F := Ideal) c arg2 harg2 arg3 harg3 arg4 harg4 arg5 harg5 arg9 arg10 x1 x2 x3 x4 fh0 (n % 30 / 6 + 1)

theorem Yre_at (n : ℕ) (hn : n < 30) (y : S32x256.Idx) :
    Yre (F := Ideal) arg1 harg1 arg11 x0 (LL c arg2 harg2 arg3 harg3 arg4 harg4 arg5 harg5 arg9 arg10 x1 x2 x3 x4 fh0 n) n y
      = reOf x1 x2 x3 x4 (dyArr c fh0) (dys (F := Ideal) arg1 harg1 x0) n (y 0).val (y 1).val := by
  have hm : n % 30 = n := Nat.mod_eq_of_lt hn
  have hl := fun h j hh hj => leaf_at arg2 harg2 arg3 harg3 arg4 harg4 arg5 harg5 x1 x2 x3 x4 c arg9 arg10 arg11 fh0 h j n hh hj hn (ix3 (0 : Fin 1) (y 0) (y 1))
  unfold Yre yre
  show ((join (F := Ideal) _ _ _ y + alpha (F := Ideal) _ y * join (F := Ideal) _ _ _ y) + beta (F := Ideal) _ y * join (F := Ideal) _ _ _ y) * coef (F := Ideal) _ _ y = _
  rw [join_at, join_at, join_at, alpha_at, beta_at, coef_at _ _ (by omega)]
  rw [hl 0 0 (by omega) (by omega), hl 0 1 (by omega) (by omega), hl 0 2 (by omega) (by omega), hl 0 3 (by omega) (by omega), hl 1 1 (by omega) (by omega), hl 1 3 (by omega) (by omega), hm]
  rfl
theorem Yim_at (n : ℕ) (hn : n < 30) (y : S32x256.Idx) :
    Yim (F := Ideal) arg1 harg1 arg11 x0 (LL c arg2 harg2 arg3 harg3 arg4 harg4 arg5 harg5 arg9 arg10 x1 x2 x3 x4 fh0 n) n y
      = imOf x1 x2 x3 x4 (dyArr c fh0) (dys (F := Ideal) arg1 harg1 x0) n (y 0).val (y 1).val := by
  have hm : n % 30 = n := Nat.mod_eq_of_lt hn
  have hl := fun h j hh hj => leaf_at arg2 harg2 arg3 harg3 arg4 harg4 arg5 harg5 x1 x2 x3 x4 c arg9 arg10 arg11 fh0 h j n hh hj hn (ix3 (0 : Fin 1) (y 0) (y 1))
  unfold Yim yim
  show ((join (F := Ideal) _ _ _ y + alpha (F := Ideal) _ y * join (F := Ideal) _ _ _ y) - beta (F := Ideal) _ y * join (F := Ideal) _ _ _ y) * coef (F := Ideal) _ _ y = _
  rw [join_at, join_at, join_at, alpha_at, beta_at, coef_at _ _ (by omega)]
  rw [hl 1 0 (by omega) (by omega), hl 0 1 (by omega) (by omega), hl 1 2 (by omega) (by omega), hl 0 3 (by omega) (by omega), hl 1 1 (by omega) (by omega), hl 1 3 (by omega) (by omega), hm]
  rfl

/-- The exponent of mode `32 n + i`. -/
def exAt (D : S2x5120x128.Idx → EReal) (r : EReal) (n i : ℕ) : EReal :=
  exOf (rowMax (reOf x1 x2 x3 x4 D r n i) (imOf x1 x2 x3 x4 D r n i) * Ideal.ofBits .f32 0x37924925#32)

theorem Ex_at (n : ℕ) (hn : n < 30) (y : S32x256.Idx) :
    Ex (F := Ideal) arg1 harg1 arg11 x0 (LL c arg2 harg2 arg3 harg3 arg4 harg4 arg5 harg5 arg9 arg10 x1 x2 x3 x4 fh0 n) n y
      = exAt x1 x2 x3 x4 (dyArr c fh0) (dys (F := Ideal) arg1 harg1 x0) n (y 0).val :=
  expo_at _ _ (fun i q => reOf x1 x2 x3 x4 (dyArr c fh0) (dys (F := Ideal) arg1 harg1 x0) n i q) (fun i q => imOf x1 x2 x3 x4 (dyArr c fh0) (dys (F := Ideal) arg1 harg1 x0) n i q)
    (Yre_at c arg1 harg1 arg2 harg2 arg3 harg3 arg4 harg4 arg5 harg5 arg9 arg10 arg11 x0 x1 x2 x3 x4 fh0 n hn)
    (Yim_at c arg1 harg1 arg2 harg2 arg3 harg3 arg4 harg4 arg5 harg5 arg9 arg10 arg11 x0 x1 x2 x3 x4 fh0 n hn) y

end

end Cert.KernelIdeal.Dft
-- ==== Proof.Results.lean ====
/- What the kernel's code array and its scales hold after its stores, entry by entry. -/
module

public import proofs.«01_k».proof.Proof.Value

@[expose] public section

set_option maxRecDepth 16384
set_option maxHeartbeats 1000000

noncomputable section

namespace Cert.KernelIdeal.Dft

open Cert.KernelIdeal Cert.KernelIdeal.Gen
open Idealize.ShloMosaic Idealize.ShloMosaic.TcCoe Idealize.ShloMosaic.Tactic
open Idealize.ShloMosaic.ValueIdx

section
variable (x1 x2 x3 x4 : S32x1280.Idx → EReal) (D : S2x5120x128.Idx → EReal) (r : EReal)

/-- The code of mode `m` in column `l` of batch `b`: the real part's (`p = 0`) or the imaginary part's. -/
def codeAt (p b m l : ℕ) : EReal :=
  clip (if p = 0 then reOf x1 x2 x3 x4 D r (m / 32) (m % 32) (128 * b + l) else imOf x1 x2 x3 x4 D r (m / 32) (m % 32) (128 * b + l))
    (exAt x1 x2 x3 x4 D r (m / 32) (m % 32))
/-- The scale of mode `m`. -/
def scaleAt (m : ℕ) : EReal := Ideal.exp2 (exAt x1 x2 x3 x4 D r (m / 32) (m % 32))
def G3 (y : S2x2x960x128.Idx) : EReal := codeAt x1 x2 x3 x4 D r (y 0).val (y 1).val (y 2).val (y 3).val
def G6 (y : S960x128.Idx) : EReal := scaleAt x1 x2 x3 x4 D r (y 0).val
end

section
variable (c : Dev nD) (arg1 : Memref sig .tc .smem S1 .f32) (harg1 : arg1.IsWhole) (arg2 : Memref sig .tc .vmem S32x1280 .f32) (harg2 : arg2.IsWhole)
  (arg3 : Memref sig .tc .vmem S32x1280 .f32) (harg3 : arg3.IsWhole) (arg4 : Memref sig .tc .vmem S32x1280 .f32) (harg4 : arg4.IsWhole)
  (arg5 : Memref sig .tc .vmem S32x1280 .f32) (harg5 : arg5.IsWhole) (arg9 : Memref sig .tc .vmem S2x5120x128 .fp8e5m2)
  (arg10 : Memref sig .tc .vmem S1920x1280 .bf16) (arg11 : Memref sig .tc .vmem S4x384x256 .f32)
  (x0 : Vec Ideal S1 .f32) (x1 : Vec Ideal S32x1280 .f32) (x2 : Vec Ideal S32x1280 .f32) (x3 : Vec Ideal S32x1280 .f32) (x4 : Vec Ideal S32x1280 .f32)
  (fh0 : HbBuf0 (F := Ideal) c hbM0_0)

theorem re_code (n : ℕ) (hn : n < 30) (y : S32x256.Idx) :
    (code (F := Ideal) (Yre arg1 harg1 arg11 x0 (LL c arg2 harg2 arg3 harg3 arg4 harg4 arg5 harg5 arg9 arg10 x1 x2 x3 x4 fh0 n) n)
      (Ex arg1 harg1 arg11 x0 (LL c arg2 harg2 arg3 harg3 arg4 harg4 arg5 harg5 arg9 arg10 x1 x2 x3 x4 fh0 n) n) y : EReal)
      = clip (reOf x1 x2 x3 x4 (dyArr c fh0) (dys (F := Ideal) arg1 harg1 x0) n (y 0).val (y 1).val) (exAt x1 x2 x3 x4 (dyArr c fh0) (dys (F := Ideal) arg1 harg1 x0) n (y 0).val) := by
  rw [code_at, Yre_at c arg1 harg1 arg2 harg2 arg3 harg3 arg4 harg4 arg5 harg5 arg9 arg10 arg11 x0 x1 x2 x3 x4 fh0 n hn,
    Ex_at c arg1 harg1 arg2 harg2 arg3 harg3 arg4 harg4 arg5 harg5 arg9 arg10 arg11 x0 x1 x2 x3 x4 fh0 n hn]
theorem im_code (n : ℕ) (hn : n < 30) (y : S32x256.Idx) :
    (code (F := Ideal) (Yim arg1 harg1 arg11 x0 (LL c arg2 harg2 arg3 harg3 arg4 harg4 arg5 harg5 arg9 arg10 x1 x2 x3 x4 fh0 n) n)
      (Ex arg1 harg1 arg11 x0 (LL c arg2 harg2 arg3 harg3 arg4 harg4 arg5 harg5 arg9 arg10 x1 x2 x3 x4 fh0 n) n) y : EReal)
      = clip (imOf x1 x2 x3 x4 (dyArr c fh0) (dys (F := Ideal) arg1 harg1 x0) n (y 0).val (y 1).val) (exAt x1 x2 x3 x4 (dyArr c fh0) (dys (F := Ideal) arg1 harg1 x0) n (y 0).val) := by
  rw [code_at, Yim_at c arg1 harg1 arg2 harg2 arg3 harg3 arg4 harg4 arg5 harg5 arg9 arg10 arg11 x0 x1 x2 x3 x4 fh0 n hn,
    Ex_at c arg1 harg1 arg2 harg2 arg3 harg3 arg4 harg4 arg5 harg5 arg9 arg10 arg11 x0 x1 x2 x3 x4 fh0 n hn]

/-- Where an entry of a code block lies in the array. -/
theorem box3_val (p b n : ℕ) (hp : p < 2) (hb : b < 2) (hn : n < 30) (x : S1x1x32x128.Idx) :
    ((box3 p b n).emb x 0).val = p ∧ ((box3 p b n).emb x 1).val = b ∧ ((box3 p b n).emb x 2).val = 32 * n + (x 2).val ∧ ((box3 p b n).emb x 3).val = (x 3).val := by
  have h0 : (x 0).val < 1 := (x 0).isLt
  have h1 : (x 1).val < 1 := (x 1).isLt
  refine ⟨?_, ?_, ?_, ?_⟩
  · show p % 2 + 1 * (x 0).val = p; omega
  · show b % 2 + 1 * (x 1).val = b; omega
  · show 32 * (n % 30) + 1 * (x 2).val = 32 * n + (x 2).val; omega
  · show 0 + 1 * (x 3).val = (x 3).val; omega
theorem G3_box (D : S2x5120x128.Idx → EReal) (r : EReal) (p b n : ℕ) (hp : p < 2) (hb : b < 2) (hn : n < 30) (x : S1x1x32x128.Idx) :
    G3 x1 x2 x3 x4 D r ((box3 p b n).emb x) = clip (if p = 0 then reOf x1 x2 x3 x4 D r n (x 2).val (128 * b + (x 3).val) else imOf x1 x2 x3 x4 D r n (x 2).val (128 * b + (x 3).val)) (exAt x1 x2 x3 x4 D r n (x 2).val) := by
  obtain ⟨e0, e1, e2, e3⟩ := box3_val p b n hp hb hn x
  have h2 : (x 2).val < 32 := (x 2).isLt
  unfold G3 codeAt
  rw [e0, e1, e2, e3, show (32 * n + (x 2).val) / 32 = n by omega, show (32 * n + (x 2).val) % 32 = (x 2).val by omega]

theorem L3_pieces : ∀ N, N ≤ 30 → ∀ p ∈ L3 (F := Ideal) c arg1 harg1 arg2 harg2 arg3 harg3 arg4 harg4 arg5 harg5 arg9 arg10 arg11 x0 x1 x2 x3 x4 fh0 N,
    ∀ x : p.1.shape.Idx, p.2 x = G3 x1 x2 x3 x4 (dyArr c fh0) (dys (F := Ideal) arg1 harg1 x0) (p.1.emb x)
  | 0, _, p, hp, _ => by simp [L3] at hp
  | n + 1, hn, p, hp, x => by
    unfold L3 push3 at hp
    rcases List.mem_cons.1 hp with rfl | hp
    · refine (half1_at _ x).trans ((im_code c arg1 harg1 arg2 harg2 arg3 harg3 arg4 harg4 arg5 harg5 arg9 arg10 arg11 x0 x1 x2 x3 x4 fh0 n (by omega) _).trans ?_)
      exact (G3_box x1 x2 x3 x4 _ _ 1 1 n (by omega) (by omega) (by omega) x).symm
    rcases List.mem_cons.1 hp with rfl | hp
    · refine (half1_at _ x).trans ((re_code c arg1 harg1 arg2 harg2 arg3 harg3 arg4 harg4 arg5 harg5 arg9 arg10 arg11 x0 x1 x2 x3 x4 fh0 n (by omega) _).trans ?_)
      exact (G3_box x1 x2 x3 x4 _ _ 0 1 n (by omega) (by omega) (by omega) x).symm
    rcases List.mem_cons.1 hp with rfl | hp
    · refine (half0_at _ x).trans ((im_code c arg1 harg1 arg2 harg2 arg3 harg3 arg4 harg4 arg5 harg5 arg9 arg10 arg11 x0 x1 x2 x3 x4 fh0 n (by omega) _).trans ?_)
      refine Eq.trans ?_ (G3_box x1 x2 x3 x4 _ _ 1 0 n (by omega) (by omega) (by omega) x).symm
      rw [if_neg (by decide), show 128 * 0 + (x 3).val = (x 3).val by omega]
    rcases List.mem_cons.1 hp with rfl | hp
    · refine (half0_at _ x).trans ((re_code c arg1 harg1 arg2 harg2 arg3 harg3 arg4 harg4 arg5 harg5 arg9 arg10 arg11 x0 x1 x2 x3 x4 fh0 n (by omega) _).trans ?_)
      refine Eq.trans ?_ (G3_box x1 x2 x3 x4 _ _ 0 0 n (by omega) (by omega) (by omega) x).symm
      rw [if_pos rfl, show 128 * 0 + (x 3).val = (x 3).val by omega]
    · exact L3_pieces n (by omega) p hp x

theorem mem_box3 (p b n : ℕ) (hn : n < 30) (hp : p < 2) (hb : b < 2) (y : S2x2x960x128.Idx) (h0 : (y 0).val = p) (h1 : (y 1).val = b) (h2 : (y 2).val / 32 = n) : y ∈ (box3 p b n).set := by
  have h3 : (y 3).val < 128 := (y 3).isLt
  refine Rect.mem_set_unit.2 ?_
  intro a
  match a with
  | ⟨0, _⟩ => show p % 2 ≤ (y 0).val ∧ (y 0).val < p % 2 + 1; omega
  | ⟨1, _⟩ => show b % 2 ≤ (y 1).val ∧ (y 1).val < b % 2 + 1; omega
  | ⟨2, _⟩ => show 32 * (n % 30) ≤ (y 2).val ∧ (y 2).val < 32 * (n % 30) + 32; omega
  | ⟨3, _⟩ => show 0 ≤ (y 3).val ∧ (y 3).val < 0 + 128; omega

theorem L3_cover : ∀ N, N ≤ 30 → ∀ y : S2x2x960x128.Idx, (y 2).val / 32 < N →
    ∃ p ∈ L3 (F := Ideal) c arg1 harg1 arg2 harg2 arg3 harg3 arg4 harg4 arg5 harg5 arg9 arg10 arg11 x0 x1 x2 x3 x4 fh0 N, y ∈ p.1.set
  | 0, _, y, h => absurd h (by omega)
  | n + 1, hn, y, h => by
    have h0 : (y 0).val < 2 := (y 0).isLt
    have h1 : (y 1).val < 2 := (y 1).isLt
    unfold L3 push3
    by_cases hlt : (y 2).val / 32 < n
    · obtain ⟨p, hp, hy⟩ := L3_cover n (by omega) y hlt
      exact ⟨p, List.mem_cons_of_mem _ (List.mem_cons_of_mem _ (List.mem_cons_of_mem _ (List.mem_cons_of_mem _ hp))), hy⟩
    · have h2 : (y 2).val / 32 = n := by omega
      by_cases e0 : (y 0).val = 0 <;> by_cases e1 : (y 1).val = 0
      · exact ⟨_, List.mem_cons_of_mem _ (List.mem_cons_of_mem _ (List.mem_cons_of_mem _ List.mem_cons_self)), mem_box3 0 0 n (by omega) (by omega) (by omega) y e0 e1 h2⟩
      · exact ⟨_, List.mem_cons_of_mem _ List.mem_cons_self, mem_box3 0 1 n (by omega) (by omega) (by omega) y e0 (by omega) h2⟩
      · exact ⟨_, List.mem_cons_of_mem _ (List.mem_cons_of_mem _ List.mem_cons_self), mem_box3 1 0 n (by omega) (by omega) (by omega) y (by omega) e1 h2⟩
      · exact ⟨_, List.mem_cons_self, mem_box3 1 1 n (by omega) (by omega) (by omega) y (by omega) (by omega) h2⟩

/-- The code array after the stores. -/
theorem L3_canon (y : S2x2x960x128.Idx) :
    View.canon (L3 (F := Ideal) c arg1 harg1 arg2 harg2 arg3 harg3 arg4 harg4 arg5 harg5 arg9 arg10 arg11 x0 x1 x2 x3 x4 fh0 30) y = G3 x1 x2 x3 x4 (dyArr c fh0) (dys (F := Ideal) arg1 harg1 x0) y := by
  have h2 : (y 2).val < 960 := (y 2).isLt
  exact View.canon_apply_of_pieces (G3 x1 x2 x3 x4 (dyArr c fh0) (dys (F := Ideal) arg1 harg1 x0)) _ (L3_pieces c arg1 harg1 arg2 harg2 arg3 harg3 arg4 harg4 arg5 harg5 arg9 arg10 arg11 x0 x1 x2 x3 x4 fh0 30 le_rfl) y
    (L3_cover c arg1 harg1 arg2 harg2 arg3 harg3 arg4 harg4 arg5 harg5 arg9 arg10 arg11 x0 x1 x2 x3 x4 fh0 30 le_rfl y (by omega))

theorem L6_pieces : ∀ N, N ≤ 30 → ∀ p ∈ L6 (F := Ideal) c arg1 harg1 arg2 harg2 arg3 harg3 arg4 harg4 arg5 harg5 arg9 arg10 arg11 x0 x1 x2 x3 x4 fh0 N,
    ∀ x : p.1.shape.Idx, p.2 x = G6 x1 x2 x3 x4 (dyArr c fh0) (dys (F := Ideal) arg1 harg1 x0) (p.1.emb x)
  | 0, _, p, hp, _ => by simp [L6] at hp
  | n + 1, hn, p, hp, x => by
    unfold L6 push6 at hp
    have hm : n % 30 = n := Nat.mod_eq_of_lt (by omega)
    rcases List.mem_cons.1 hp with rfl | hp
    · have h0 : (x 0).val < 32 := (x 0).isLt
      refine (scale_at _ x).trans ?_
      rw [Ex_at c arg1 harg1 arg2 harg2 arg3 harg3 arg4 harg4 arg5 harg5 arg9 arg10 arg11 x0 x1 x2 x3 x4 fh0 n (by omega)]
      have e0 : ((Rect.unit (s := S960x128) ![32 * (n % 30), 0] S32x128.size (inb6 n)).emb x 0).val = 32 * (n % 30) + 1 * (x 0).val := rfl
      unfold G6 scaleAt
      rw [e0, show (32 * (n % 30) + 1 * (x 0).val) / 32 = n by omega, show (32 * (n % 30) + 1 * (x 0).val) % 32 = (x 0).val by omega]
    · exact L6_pieces n (by omega) p hp x
theorem L6_cover : ∀ N, N ≤ 30 → ∀ y : S960x128.Idx, (y 0).val / 32 < N →
    ∃ p ∈ L6 (F := Ideal) c arg1 harg1 arg2 harg2 arg3 harg3 arg4 harg4 arg5 harg5 arg9 arg10 arg11 x0 x1 x2 x3 x4 fh0 N, y ∈ p.1.set
  | 0, _, y, h => absurd h (by omega)
  | n + 1, hn, y, h => by
    have h1 : (y 1).val < 128 := (y 1).isLt
    unfold L6 push6
    by_cases hlt : (y 0).val / 32 < n
    · obtain ⟨p, hp, hy⟩ := L6_cover n (by omega) y hlt
      exact ⟨p, List.mem_cons_of_mem _ hp, hy⟩
    · refine ⟨_, List.mem_cons_self, (Rect.mem_set_unit (inb := inb6 n)).2 ?_⟩
      intro a
      match a with
      | ⟨0, _⟩ => show 32 * (n % 30) ≤ (y 0).val ∧ (y 0).val < 32 * (n % 30) + 32; omega
      | ⟨1, _⟩ => show 0 ≤ (y 1).val ∧ (y 1).val < 0 + 128; omega
/-- The scales, one row for each mode, after the stores. -/
theorem L6_canon (y : S960x128.Idx) :
    View.canon (L6 (F := Ideal) c arg1 harg1 arg2 harg2 arg3 harg3 arg4 harg4 arg5 harg5 arg9 arg10 arg11 x0 x1 x2 x3 x4 fh0 30) y = G6 x1 x2 x3 x4 (dyArr c fh0) (dys (F := Ideal) arg1 harg1 x0) y := by
  have h2 : (y 0).val < 960 := (y 0).isLt
  exact View.canon_apply_of_pieces (G6 x1 x2 x3 x4 (dyArr c fh0) (dys (F := Ideal) arg1 harg1 x0)) _ (L6_pieces c arg1 harg1 arg2 harg2 arg3 harg3 arg4 harg4 arg5 harg5 arg9 arg10 arg11 x0 x1 x2 x3 x4 fh0 30 le_rfl) y
    (L6_cover c arg1 harg1 arg2 harg2 arg3 harg3 arg4 harg4 arg5 harg5 arg9 arg10 arg11 x0 x1 x2 x3 x4 fh0 30 le_rfl y (by omega))

end

end Cert.KernelIdeal.Dft
-- ==== Proof.Found.lean ====
/- The lists of stores found by running the kernel's body are the ones given by a rule. -/
module

public import proofs.«01_k».proof.Proof.Lists
import all proofs.«01_k».proof.Proof.Lists
import all proofs.«01_k».proof.Proof.RunV

@[expose] public section

set_option maxRecDepth 16384
set_option maxHeartbeats 4000000

noncomputable section

namespace Cert.KernelIdeal.Dft

open Cert.KernelIdeal Cert.KernelIdeal.Gen
open Idealize.ShloMosaic Idealize.ShloMosaic.TcCoe Idealize.ShloMosaic.Tactic

variable {F : FTy → Type} [FloatOps F] [Named F]
variable (c : Dev nD) (arg1 : Memref sig .tc .smem S1 .f32) (harg1 : arg1.IsWhole) (arg2 : Memref sig .tc .vmem S32x1280 .f32) (harg2 : arg2.IsWhole)
  (arg3 : Memref sig .tc .vmem S32x1280 .f32) (harg3 : arg3.IsWhole) (arg4 : Memref sig .tc .vmem S32x1280 .f32) (harg4 : arg4.IsWhole)
  (arg5 : Memref sig .tc .vmem S32x1280 .f32) (harg5 : arg5.IsWhole) (arg9 : Memref sig .tc .vmem S2x5120x128 .fp8e5m2)
  (arg10 : Memref sig .tc .vmem S1920x1280 .bf16) (arg11 : Memref sig .tc .vmem S4x384x256 .f32)
  (arg15 : Memref sig .tc .vmem S960x128 .f32)
  (x0 : Vec F S1 .f32) (x1 : Vec F S32x1280 .f32) (x2 : Vec F S32x1280 .f32) (x3 : Vec F S32x1280 .f32) (x4 : Vec F S32x1280 .f32)
  (fh0 : HbBuf0 (F := F) c hbM0_0)

theorem basis_1 : runV.sl.HS1_12 c arg2 harg2 arg3 harg3 arg4 harg4 arg5 harg5 x1 x2 x3 x4 = L1 arg2 harg2 arg3 harg3 arg4 harg4 arg5 harg5 x1 x2 x3 x4 6 := by
  repeat' (refine cons_eq rfl ?_)
  exact rfl
theorem basis_2 : runV.sl.HS1_24 c arg2 harg2 arg3 harg3 arg4 harg4 arg5 harg5 x1 x2 x3 x4 = L1 arg2 harg2 arg3 harg3 arg4 harg4 arg5 harg5 x1 x2 x3 x4 12 := by
  repeat' (refine cons_eq rfl ?_)
  rfl
theorem basis_3 : runV.sl.HS1_36 c arg2 harg2 arg3 harg3 arg4 harg4 arg5 harg5 x1 x2 x3 x4 = L1 arg2 harg2 arg3 harg3 arg4 harg4 arg5 harg5 x1 x2 x3 x4 18 := by
  repeat' (refine cons_eq rfl ?_)
  rfl
theorem basis_4 : runV.sl.HS1_48 c arg2 harg2 arg3 harg3 arg4 harg4 arg5 harg5 x1 x2 x3 x4 = L1 arg2 harg2 arg3 harg3 arg4 harg4 arg5 harg5 x1 x2 x3 x4 24 := by
  repeat' (refine cons_eq rfl ?_)
  rfl
theorem basis_5 : runV.sl.HS1_60 c arg2 harg2 arg3 harg3 arg4 harg4 arg5 harg5 x1 x2 x3 x4 = L1 arg2 harg2 arg3 harg3 arg4 harg4 arg5 harg5 x1 x2 x3 x4 30 := by
  repeat' (refine cons_eq rfl ?_)
  rfl
theorem products_1 : runV.sl.HS2_4 c arg2 harg2 arg3 harg3 arg4 harg4 arg5 harg5 arg9 arg10 x1 x2 x3 x4 fh0 = L2 c arg2 harg2 arg3 harg3 arg4 harg4 arg5 harg5 arg9 arg10 x1 x2 x3 x4 fh0 1 := by
  have hb := basis_1 c arg2 harg2 arg3 harg3 arg4 harg4 arg5 harg5 x1 x2 x3 x4
  refine cons_eq (congrArg (fun L => P2 c arg9 arg10 fh0 L 0 3) hb) (cons_eq (congrArg (fun L => P2 c arg9 arg10 fh0 L 0 2) hb)
    (cons_eq (congrArg (fun L => P2 c arg9 arg10 fh0 L 0 1) hb) (cons_eq (congrArg (fun L => P2 c arg9 arg10 fh0 L 0 0) hb) ?_)))
  exact rfl
theorem products_2 : runV.sl.HS2_8 c arg2 harg2 arg3 harg3 arg4 harg4 arg5 harg5 arg9 arg10 x1 x2 x3 x4 fh0 = L2 c arg2 harg2 arg3 harg3 arg4 harg4 arg5 harg5 arg9 arg10 x1 x2 x3 x4 fh0 2 := by
  have hb := basis_2 c arg2 harg2 arg3 harg3 arg4 harg4 arg5 harg5 x1 x2 x3 x4
  refine cons_eq (congrArg (fun L => P2 c arg9 arg10 fh0 L 1 3) hb) (cons_eq (congrArg (fun L => P2 c arg9 arg10 fh0 L 1 2) hb)
    (cons_eq (congrArg (fun L => P2 c arg9 arg10 fh0 L 1 1) hb) (cons_eq (congrArg (fun L => P2 c arg9 arg10 fh0 L 1 0) hb) ?_)))
  exact products_1 c arg2 harg2 arg3 harg3 arg4 harg4 arg5 harg5 arg9 arg10 x1 x2 x3 x4 fh0
theorem products_3 : runV.sl.HS2_12 c arg2 harg2 arg3 harg3 arg4 harg4 arg5 harg5 arg9 arg10 x1 x2 x3 x4 fh0 = L2 c arg2 harg2 arg3 harg3 arg4 harg4 arg5 harg5 arg9 arg10 x1 x2 x3 x4 fh0 3 := by
  have hb := basis_3 c arg2 harg2 arg3 harg3 arg4 harg4 arg5 harg5 x1 x2 x3 x4
  refine cons_eq (congrArg (fun L => P2 c arg9 arg10 fh0 L 2 3) hb) (cons_eq (congrArg (fun L => P2 c arg9 arg10 fh0 L 2 2) hb)
    (cons_eq (congrArg (fun L => P2 c arg9 arg10 fh0 L 2 1) hb) (cons_eq (congrArg (fun L => P2 c arg9 arg10 fh0 L 2 0) hb) ?_)))
  exact products_2 c arg2 harg2 arg3 harg3 arg4 harg4 arg5 harg5 arg9 arg10 x1 x2 x3 x4 fh0
theorem products_4 : runV.sl.HS2_16 c arg2 harg2 arg3 harg3 arg4 harg4 arg5 harg5 arg9 arg10 x1 x2 x3 x4 fh0 = L2 c arg2 harg2 arg3 harg3 arg4 harg4 arg5 harg5 arg9 arg10 x1 x2 x3 x4 fh0 4 := by
  have hb := basis_4 c arg2 harg2 arg3 harg3 arg4 harg4 arg5 harg5 x1 x2 x3 x4
  refine cons_eq (congrArg (fun L => P2 c arg9 arg10 fh0 L 3 3) hb) (cons_eq (congrArg (fun L => P2 c arg9 arg10 fh0 L 3 2) hb)
    (cons_eq (congrArg (fun L => P2 c arg9 arg10 fh0 L 3 1) hb) (cons_eq (congrArg (fun L => P2 c arg9 arg10 fh0 L 3 0) hb) ?_)))
  exact products_3 c arg2 harg2 arg3 harg3 arg4 harg4 arg5 harg5 arg9 arg10 x1 x2 x3 x4 fh0
theorem products_5 : runV.sl.HS2_20 c arg2 harg2 arg3 harg3 arg4 harg4 arg5 harg5 arg9 arg10 x1 x2 x3 x4 fh0 = L2 c arg2 harg2 arg3 harg3 arg4 harg4 arg5 harg5 arg9 arg10 x1 x2 x3 x4 fh0 5 := by
  have hb := basis_5 c arg2 harg2 arg3 harg3 arg4 harg4 arg5 harg5 x1 x2 x3 x4
  refine cons_eq (congrArg (fun L => P2 c arg9 arg10 fh0 L 4 3) hb) (cons_eq (congrArg (fun L => P2 c arg9 arg10 fh0 L 4 2) hb)
    (cons_eq (congrArg (fun L => P2 c arg9 arg10 fh0 L 4 1) hb) (cons_eq (congrArg (fun L => P2 c arg9 arg10 fh0 L 4 0) hb) ?_)))
  exact products_4 c arg2 harg2 arg3 harg3 arg4 harg4 arg5 harg5 arg9 arg10 x1 x2 x3 x4 fh0

/-- The code blocks found, one row block at a time: what is in front of the earlier ones agrees by unfolding. -/
theorem push3_eq (L : List (View.Piece (Elt F) S4x384x256 .f32)) (n : ℕ) {p3 p2 p1 p0 : View.Piece (Elt F) S2x2x960x128 .fp8e5m2}
    {l T : List (View.Piece (Elt F) S2x2x960x128 .fp8e5m2)} {K : List (View.Piece (Elt F) S4x384x256 .f32)} (hL : K = L)
    (h3 : p3 = ⟨box3 1 1 n, half1 (code (Yim arg1 harg1 arg11 x0 K n) (Ex arg1 harg1 arg11 x0 K n))⟩)
    (h2 : p2 = ⟨box3 0 1 n, half1 (code (Yre arg1 harg1 arg11 x0 K n) (Ex arg1 harg1 arg11 x0 K n))⟩)
    (h1 : p1 = ⟨box3 1 0 n, half0 (code (Yim arg1 harg1 arg11 x0 K n) (Ex arg1 harg1 arg11 x0 K n))⟩)
    (h0 : p0 = ⟨box3 0 0 n, half0 (code (Yre arg1 harg1 arg11 x0 K n) (Ex arg1 harg1 arg11 x0 K n))⟩) (hl : l = T) :
    p3 :: p2 :: p1 :: p0 :: l = push3 arg1 harg1 arg11 x0 L n T := by
  subst hL h3 h2 h1 h0 hl; rfl

end Cert.KernelIdeal.Dft
-- ==== Proof.FoundCodes.lean ====
/- The lists of code stores found by running the kernel's body are the ones given by a rule. -/
module

public import proofs.«01_k».proof.Proof.Found
import all proofs.«01_k».proof.Proof.Lists
import all proofs.«01_k».proof.Proof.RunV

@[expose] public section

set_option maxRecDepth 16384
set_option maxHeartbeats 4000000

noncomputable section

namespace Cert.KernelIdeal.Dft

open Cert.KernelIdeal Cert.KernelIdeal.Gen
open Idealize.ShloMosaic Idealize.ShloMosaic.TcCoe Idealize.ShloMosaic.Tactic

variable {F : FTy → Type} [FloatOps F] [Named F]
variable (c : Dev nD) (arg1 : Memref sig .tc .smem S1 .f32) (harg1 : arg1.IsWhole) (arg2 : Memref sig .tc .vmem S32x1280 .f32) (harg2 : arg2.IsWhole)
  (arg3 : Memref sig .tc .vmem S32x1280 .f32) (harg3 : arg3.IsWhole) (arg4 : Memref sig .tc .vmem S32x1280 .f32) (harg4 : arg4.IsWhole)
  (arg5 : Memref sig .tc .vmem S32x1280 .f32) (harg5 : arg5.IsWhole) (arg9 : Memref sig .tc .vmem S2x5120x128 .fp8e5m2)
  (arg10 : Memref sig .tc .vmem S1920x1280 .bf16) (arg11 : Memref sig .tc .vmem S4x384x256 .f32)
  (arg15 : Memref sig .tc .vmem S960x128 .f32)
  (x0 : Vec F S1 .f32) (x1 : Vec F S32x1280 .f32) (x2 : Vec F S32x1280 .f32) (x3 : Vec F S32x1280 .f32) (x4 : Vec F S32x1280 .f32)
  (fh0 : HbBuf0 (F := F) c hbM0_0)

theorem codes_eq : runV.sl.HS3_120 c arg1 harg1 arg2 harg2 arg3 harg3 arg4 harg4 arg5 harg5 arg9 arg10 arg11 x0 x1 x2 x3 x4 fh0 = L3 c arg1 harg1 arg2 harg2 arg3 harg3 arg4 harg4 arg5 harg5 arg9 arg10 arg11 x0 x1 x2 x3 x4 fh0 30 := by
  refine push3_eq arg1 harg1 arg11 x0 _ 29 (products_5 c arg2 harg2 arg3 harg3 arg4 harg4 arg5 harg5 arg9 arg10 x1 x2 x3 x4 fh0) rfl rfl rfl rfl ?_
  refine push3_eq arg1 harg1 arg11 x0 _ 28 (products_5 c arg2 harg2 arg3 harg3 arg4 harg4 arg5 harg5 arg9 arg10 x1 x2 x3 x4 fh0) rfl rfl rfl rfl ?_
  refine push3_eq arg1 harg1 arg11 x0 _ 27 (products_5 c arg2 harg2 arg3 harg3 arg4 harg4 arg5 harg5 arg9 arg10 x1 x2 x3 x4 fh0) rfl rfl rfl rfl ?_
  refine push3_eq arg1 harg1 arg11 x0 _ 26 (products_5 c arg2 harg2 arg3 harg3 arg4 harg4 arg5 harg5 arg9 arg10 x1 x2 x3 x4 fh0) rfl rfl rfl rfl ?_
  refine push3_eq arg1 harg1 arg11 x0 _ 25 (products_5 c arg2 harg2 arg3 harg3 arg4 harg4 arg5 harg5 arg9 arg10 x1 x2 x3 x4 fh0) rfl rfl rfl rfl ?_
  refine push3_eq arg1 harg1 arg11 x0 _ 24 (products_5 c arg2 harg2 arg3 harg3 arg4 harg4 arg5 harg5 arg9 arg10 x1 x2 x3 x4 fh0) rfl rfl rfl rfl ?_
  refine push3_eq arg1 harg1 arg11 x0 _ 23 (products_4 c arg2 harg2 arg3 harg3 arg4 harg4 arg5 harg5 arg9 arg10 x1 x2 x3 x4 fh0) rfl rfl rfl rfl ?_
  refine push3_eq arg1 harg1 arg11 x0 _ 22 (products_4 c arg2 harg2 arg3 harg3 arg4 harg4 arg5 harg5 arg9 arg10 x1 x2 x3 x4 fh0) rfl rfl rfl rfl ?_
  refine push3_eq arg1 harg1 arg11 x0 _ 21 (products_4 c arg2 harg2 arg3 harg3 arg4 harg4 arg5 harg5 arg9 arg10 x1 x2 x3 x4 fh0) rfl rfl rfl rfl ?_
  refine push3_eq arg1 harg1 arg11 x0 _ 20 (products_4 c arg2 harg2 arg3 harg3 arg4 harg4 arg5 harg5 arg9 arg10 x1 x2 x3 x4 fh0) rfl rfl rfl rfl ?_
  refine push3_eq arg1 harg1 arg11 x0 _ 19 (products_4 c arg2 harg2 arg3 harg3 arg4 harg4 arg5 harg5 arg9 arg10 x1 x2 x3 x4 fh0) rfl rfl rfl rfl ?_
  refine push3_eq arg1 harg1 arg11 x0 _ 18 (products_4 c arg2 harg2 arg3 harg3 arg4 harg4 arg5 harg5 arg9 arg10 x1 x2 x3 x4 fh0) rfl rfl rfl rfl ?_
  refine push3_eq arg1 harg1 arg11 x0 _ 17 (products_3 c arg2 harg2 arg3 harg3 arg4 harg4 arg5 harg5 arg9 arg10 x1 x2 x3 x4 fh0) rfl rfl rfl rfl ?_
  refine push3_eq arg1 harg1 arg11 x0 _ 16 (products_3 c arg2 harg2 arg3 harg3 arg4 harg4 arg5 harg5 arg9 arg10 x1 x2 x3 x4 fh0) rfl rfl rfl rfl ?_
  refine push3_eq arg1 harg1 arg11 x0 _ 15 (products_3 c arg2 harg2 arg3 harg3 arg4 harg4 arg5 harg5 arg9 arg10 x1 x2 x3 x4 fh0) rfl rfl rfl rfl ?_
  refine push3_eq arg1 harg1 arg11 x0 _ 14 (products_3 c arg2 harg2 arg3 harg3 arg4 harg4 arg5 harg5 arg9 arg10 x1 x2 x3 x4 fh0) rfl rfl rfl rfl ?_
  refine push3_eq arg1 harg1 arg11 x0 _ 13 (products_3 c arg2 harg2 arg3 harg3 arg4 harg4 arg5 harg5 arg9 arg10 x1 x2 x3 x4 fh0) rfl rfl rfl rfl ?_
  refine push3_eq arg1 harg1 arg11 x0 _ 12 (products_3 c arg2 harg2 arg3 harg3 arg4 harg4 arg5 harg5 arg9 arg10 x1 x2 x3 x4 fh0) rfl rfl rfl rfl ?_
  refine push3_eq arg1 harg1 arg11 x0 _ 11 (products_2 c arg2 harg2 arg3 harg3 arg4 harg4 arg5 harg5 arg9 arg10 x1 x2 x3 x4 fh0) rfl rfl rfl rfl ?_
  refine push3_eq arg1 harg1 arg11 x0 _ 10 (products_2 c arg2 harg2 arg3 harg3 arg4 harg4 arg5 harg5 arg9 arg10 x1 x2 x3 x4 fh0) rfl rfl rfl rfl ?_
  refine push3_eq arg1 harg1 arg11 x0 _ 9 (products_2 c arg2 harg2 arg3 harg3 arg4 harg4 arg5 harg5 arg9 arg10 x1 x2 x3 x4 fh0) rfl rfl rfl rfl ?_
  refine push3_eq arg1 harg1 arg11 x0 _ 8 (products_2 c arg2 harg2 arg3 harg3 arg4 harg4 arg5 harg5 arg9 arg10 x1 x2 x3 x4 fh0) rfl rfl rfl rfl ?_
  refine push3_eq arg1 harg1 arg11 x0 _ 7 (products_2 c arg2 harg2 arg3 harg3 arg4 harg4 arg5 harg5 arg9 arg10 x1 x2 x3 x4 fh0) rfl rfl rfl rfl ?_
  refine push3_eq arg1 harg1 arg11 x0 _ 6 (products_2 c arg2 harg2 arg3 harg3 arg4 harg4 arg5 harg5 arg9 arg10 x1 x2 x3 x4 fh0) rfl rfl rfl rfl ?_
  refine push3_eq arg1 harg1 arg11 x0 _ 5 (products_1 c arg2 harg2 arg3 harg3 arg4 harg4 arg5 harg5 arg9 arg10 x1 x2 x3 x4 fh0) rfl rfl rfl rfl ?_
  refine push3_eq arg1 harg1 arg11 x0 _ 4 (products_1 c arg2 harg2 arg3 harg3 arg4 harg4 arg5 harg5 arg9 arg10 x1 x2 x3 x4 fh0) rfl rfl rfl rfl ?_
  refine push3_eq arg1 harg1 arg11 x0 _ 3 (products_1 c arg2 harg2 arg3 harg3 arg4 harg4 arg5 harg5 arg9 arg10 x1 x2 x3 x4 fh0) rfl rfl rfl rfl ?_
  refine push3_eq arg1 harg1 arg11 x0 _ 2 (products_1 c arg2 harg2 arg3 harg3 arg4 harg4 arg5 harg5 arg9 arg10 x1 x2 x3 x4 fh0) rfl rfl rfl rfl ?_
  refine push3_eq arg1 harg1 arg11 x0 _ 1 (products_1 c arg2 harg2 arg3 harg3 arg4 harg4 arg5 harg5 arg9 arg10 x1 x2 x3 x4 fh0) rfl rfl rfl rfl ?_
  refine push3_eq arg1 harg1 arg11 x0 _ 0 (products_1 c arg2 harg2 arg3 harg3 arg4 harg4 arg5 harg5 arg9 arg10 x1 x2 x3 x4 fh0) rfl rfl rfl rfl ?_
  rfl

end Cert.KernelIdeal.Dft
-- ==== Proof.FoundScales.lean ====
/- The lists of scale stores found by running the kernel's body are the ones given by a rule. -/
module

public import proofs.«01_k».proof.Proof.Found
import all proofs.«01_k».proof.Proof.Lists
import all proofs.«01_k».proof.Proof.RunV

@[expose] public section

set_option maxRecDepth 16384
set_option maxHeartbeats 4000000

noncomputable section

namespace Cert.KernelIdeal.Dft

open Cert.KernelIdeal Cert.KernelIdeal.Gen
open Idealize.ShloMosaic Idealize.ShloMosaic.TcCoe Idealize.ShloMosaic.Tactic

variable {F : FTy → Type} [FloatOps F] [Named F]
variable (c : Dev nD) (arg1 : Memref sig .tc .smem S1 .f32) (harg1 : arg1.IsWhole) (arg2 : Memref sig .tc .vmem S32x1280 .f32) (harg2 : arg2.IsWhole)
  (arg3 : Memref sig .tc .vmem S32x1280 .f32) (harg3 : arg3.IsWhole) (arg4 : Memref sig .tc .vmem S32x1280 .f32) (harg4 : arg4.IsWhole)
  (arg5 : Memref sig .tc .vmem S32x1280 .f32) (harg5 : arg5.IsWhole) (arg9 : Memref sig .tc .vmem S2x5120x128 .fp8e5m2)
  (arg10 : Memref sig .tc .vmem S1920x1280 .bf16) (arg11 : Memref sig .tc .vmem S4x384x256 .f32)
  (arg15 : Memref sig .tc .vmem S960x128 .f32)
  (x0 : Vec F S1 .f32) (x1 : Vec F S32x1280 .f32) (x2 : Vec F S32x1280 .f32) (x3 : Vec F S32x1280 .f32) (x4 : Vec F S32x1280 .f32)
  (fh0 : HbBuf0 (F := F) c hbM0_0)

theorem scales_eq : runV.sl.HS6_30 c arg1 harg1 arg2 harg2 arg3 harg3 arg4 harg4 arg5 harg5 arg9 arg10 arg11 x0 x1 x2 x3 x4 fh0 = L6 c arg1 harg1 arg2 harg2 arg3 harg3 arg4 harg4 arg5 harg5 arg9 arg10 arg11 x0 x1 x2 x3 x4 fh0 30 := by
  refine cons_eq (congrArg (fun L => (⟨Rect.unit (s := S960x128) ![32 * (29 % 30), 0] S32x128.size (inb6 29), scale (Ex arg1 harg1 arg11 x0 L 29)⟩ : View.Piece (Elt F) S960x128 .f32)) (products_5 c arg2 harg2 arg3 harg3 arg4 harg4 arg5 harg5 arg9 arg10 x1 x2 x3 x4 fh0)) ?_
  refine cons_eq (congrArg (fun L => (⟨Rect.unit (s := S960x128) ![32 * (28 % 30), 0] S32x128.size (inb6 28), scale (Ex arg1 harg1 arg11 x0 L 28)⟩ : View.Piece (Elt F) S960x128 .f32)) (products_5 c arg2 harg2 arg3 harg3 arg4 harg4 arg5 harg5 arg9 arg10 x1 x2 x3 x4 fh0)) ?_
  refine cons_eq (congrArg (fun L => (⟨Rect.unit (s := S960x128) ![32 * (27 % 30), 0] S32x128.size (inb6 27), scale (Ex arg1 harg1 arg11 x0 L 27)⟩ : View.Piece (Elt F) S960x128 .f32)) (products_5 c arg2 harg2 arg3 harg3 arg4 harg4 arg5 harg5 arg9 arg10 x1 x2 x3 x4 fh0)) ?_
  refine cons_eq (congrArg (fun L => (⟨Rect.unit (s := S960x128) ![32 * (26 % 30), 0] S32x128.size (inb6 26), scale (Ex arg1 harg1 arg11 x0 L 26)⟩ : View.Piece (Elt F) S960x128 .f32)) (products_5 c arg2 harg2 arg3 harg3 arg4 harg4 arg5 harg5 arg9 arg10 x1 x2 x3 x4 fh0)) ?_
  refine cons_eq (congrArg (fun L => (⟨Rect.unit (s := S960x128) ![32 * (25 % 30), 0] S32x128.size (inb6 25), scale (Ex arg1 harg1 arg11 x0 L 25)⟩ : View.Piece (Elt F) S960x128 .f32)) (products_5 c arg2 harg2 arg3 harg3 arg4 harg4 arg5 harg5 arg9 arg10 x1 x2 x3 x4 fh0)) ?_
  refine cons_eq (congrArg (fun L => (⟨Rect.unit (s := S960x128) ![32 * (24 % 30), 0] S32x128.size (inb6 24), scale (Ex arg1 harg1 arg11 x0 L 24)⟩ : View.Piece (Elt F) S960x128 .f32)) (products_5 c arg2 harg2 arg3 harg3 arg4 harg4 arg5 harg5 arg9 arg10 x1 x2 x3 x4 fh0)) ?_
  refine cons_eq (congrArg (fun L => (⟨Rect.unit (s := S960x128) ![32 * (23 % 30), 0] S32x128.size (inb6 23), scale (Ex arg1 harg1 arg11 x0 L 23)⟩ : View.Piece (Elt F) S960x128 .f32)) (products_4 c arg2 harg2 arg3 harg3 arg4 harg4 arg5 harg5 arg9 arg10 x1 x2 x3 x4 fh0)) ?_
  refine cons_eq (congrArg (fun L => (⟨Rect.unit (s := S960x128) ![32 * (22 % 30), 0] S32x128.size (inb6 22), scale (Ex arg1 harg1 arg11 x0 L 22)⟩ : View.Piece (Elt F) S960x128 .f32)) (products_4 c arg2 harg2 arg3 harg3 arg4 harg4 arg5 harg5 arg9 arg10 x1 x2 x3 x4 fh0)) ?_
  refine cons_eq (congrArg (fun L => (⟨Rect.unit (s := S960x128) ![32 * (21 % 30), 0] S32x128.size (inb6 21), scale (Ex arg1 harg1 arg11 x0 L 21)⟩ : View.Piece (Elt F) S960x128 .f32)) (products_4 c arg2 harg2 arg3 harg3 arg4 harg4 arg5 harg5 arg9 arg10 x1 x2 x3 x4 fh0)) ?_
  refine cons_eq (congrArg (fun L => (⟨Rect.unit (s := S960x128) ![32 * (20 % 30), 0] S32x128.size (inb6 20), scale (Ex arg1 harg1 arg11 x0 L 20)⟩ : View.Piece (Elt F) S960x128 .f32)) (products_4 c arg2 harg2 arg3 harg3 arg4 harg4 arg5 harg5 arg9 arg10 x1 x2 x3 x4 fh0)) ?_
  refine cons_eq (congrArg (fun L => (⟨Rect.unit (s := S960x128) ![32 * (19 % 30), 0] S32x128.size (inb6 19), scale (Ex arg1 harg1 arg11 x0 L 19)⟩ : View.Piece (Elt F) S960x128 .f32)) (products_4 c arg2 harg2 arg3 harg3 arg4 harg4 arg5 harg5 arg9 arg10 x1 x2 x3 x4 fh0)) ?_
  refine cons_eq (congrArg (fun L => (⟨Rect.unit (s := S960x128) ![32 * (18 % 30), 0] S32x128.size (inb6 18), scale (Ex arg1 harg1 arg11 x0 L 18)⟩ : View.Piece (Elt F) S960x128 .f32)) (products_4 c arg2 harg2 arg3 harg3 arg4 harg4 arg5 harg5 arg9 arg10 x1 x2 x3 x4 fh0)) ?_
  refine cons_eq (congrArg (fun L => (⟨Rect.unit (s := S960x128) ![32 * (17 % 30), 0] S32x128.size (inb6 17), scale (Ex arg1 harg1 arg11 x0 L 17)⟩ : View.Piece (Elt F) S960x128 .f32)) (products_3 c arg2 harg2 arg3 harg3 arg4 harg4 arg5 harg5 arg9 arg10 x1 x2 x3 x4 fh0)) ?_
  refine cons_eq (congrArg (fun L => (⟨Rect.unit (s := S960x128) ![32 * (16 % 30), 0] S32x128.size (inb6 16), scale (Ex arg1 harg1 arg11 x0 L 16)⟩ : View.Piece (Elt F) S960x128 .f32)) (products_3 c arg2 harg2 arg3 harg3 arg4 harg4 arg5 harg5 arg9 arg10 x1 x2 x3 x4 fh0)) ?_
  refine cons_eq (congrArg (fun L => (⟨Rect.unit (s := S960x128) ![32 * (15 % 30), 0] S32x128.size (inb6 15), scale (Ex arg1 harg1 arg11 x0 L 15)⟩ : View.Piece (Elt F) S960x128 .f32)) (products_3 c arg2 harg2 arg3 harg3 arg4 harg4 arg5 harg5 arg9 arg10 x1 x2 x3 x4 fh0)) ?_
  refine cons_eq (congrArg (fun L => (⟨Rect.unit (s := S960x128) ![32 * (14 % 30), 0] S32x128.size (inb6 14), scale (Ex arg1 harg1 arg11 x0 L 14)⟩ : View.Piece (Elt F) S960x128 .f32)) (products_3 c arg2 harg2 arg3 harg3 arg4 harg4 arg5 harg5 arg9 arg10 x1 x2 x3 x4 fh0)) ?_
  refine cons_eq (congrArg (fun L => (⟨Rect.unit (s := S960x128) ![32 * (13 % 30), 0] S32x128.size (inb6 13), scale (Ex arg1 harg1 arg11 x0 L 13)⟩ : View.Piece (Elt F) S960x128 .f32)) (products_3 c arg2 harg2 arg3 harg3 arg4 harg4 arg5 harg5 arg9 arg10 x1 x2 x3 x4 fh0)) ?_
  refine cons_eq (congrArg (fun L => (⟨Rect.unit (s := S960x128) ![32 * (12 % 30), 0] S32x128.size (inb6 12), scale (Ex arg1 harg1 arg11 x0 L 12)⟩ : View.Piece (Elt F) S960x128 .f32)) (products_3 c arg2 harg2 arg3 harg3 arg4 harg4 arg5 harg5 arg9 arg10 x1 x2 x3 x4 fh0)) ?_
  refine cons_eq (congrArg (fun L => (⟨Rect.unit (s := S960x128) ![32 * (11 % 30), 0] S32x128.size (inb6 11), scale (Ex arg1 harg1 arg11 x0 L 11)⟩ : View.Piece (Elt F) S960x128 .f32)) (products_2 c arg2 harg2 arg3 harg3 arg4 harg4 arg5 harg5 arg9 arg10 x1 x2 x3 x4 fh0)) ?_
  refine cons_eq (congrArg (fun L => (⟨Rect.unit (s := S960x128) ![32 * (10 % 30), 0] S32x128.size (inb6 10), scale (Ex arg1 harg1 arg11 x0 L 10)⟩ : View.Piece (Elt F) S960x128 .f32)) (products_2 c arg2 harg2 arg3 harg3 arg4 harg4 arg5 harg5 arg9 arg10 x1 x2 x3 x4 fh0)) ?_
  refine cons_eq (congrArg (fun L => (⟨Rect.unit (s := S960x128) ![32 * (9 % 30), 0] S32x128.size (inb6 9), scale (Ex arg1 harg1 arg11 x0 L 9)⟩ : View.Piece (Elt F) S960x128 .f32)) (products_2 c arg2 harg2 arg3 harg3 arg4 harg4 arg5 harg5 arg9 arg10 x1 x2 x3 x4 fh0)) ?_
  refine cons_eq (congrArg (fun L => (⟨Rect.unit (s := S960x128) ![32 * (8 % 30), 0] S32x128.size (inb6 8), scale (Ex arg1 harg1 arg11 x0 L 8)⟩ : View.Piece (Elt F) S960x128 .f32)) (products_2 c arg2 harg2 arg3 harg3 arg4 harg4 arg5 harg5 arg9 arg10 x1 x2 x3 x4 fh0)) ?_
  refine cons_eq (congrArg (fun L => (⟨Rect.unit (s := S960x128) ![32 * (7 % 30), 0] S32x128.size (inb6 7), scale (Ex arg1 harg1 arg11 x0 L 7)⟩ : View.Piece (Elt F) S960x128 .f32)) (products_2 c arg2 harg2 arg3 harg3 arg4 harg4 arg5 harg5 arg9 arg10 x1 x2 x3 x4 fh0)) ?_
  refine cons_eq (congrArg (fun L => (⟨Rect.unit (s := S960x128) ![32 * (6 % 30), 0] S32x128.size (inb6 6), scale (Ex arg1 harg1 arg11 x0 L 6)⟩ : View.Piece (Elt F) S960x128 .f32)) (products_2 c arg2 harg2 arg3 harg3 arg4 harg4 arg5 harg5 arg9 arg10 x1 x2 x3 x4 fh0)) ?_
  refine cons_eq (congrArg (fun L => (⟨Rect.unit (s := S960x128) ![32 * (5 % 30), 0] S32x128.size (inb6 5), scale (Ex arg1 harg1 arg11 x0 L 5)⟩ : View.Piece (Elt F) S960x128 .f32)) (products_1 c arg2 harg2 arg3 harg3 arg4 harg4 arg5 harg5 arg9 arg10 x1 x2 x3 x4 fh0)) ?_
  refine cons_eq (congrArg (fun L => (⟨Rect.unit (s := S960x128) ![32 * (4 % 30), 0] S32x128.size (inb6 4), scale (Ex arg1 harg1 arg11 x0 L 4)⟩ : View.Piece (Elt F) S960x128 .f32)) (products_1 c arg2 harg2 arg3 harg3 arg4 harg4 arg5 harg5 arg9 arg10 x1 x2 x3 x4 fh0)) ?_
  refine cons_eq (congrArg (fun L => (⟨Rect.unit (s := S960x128) ![32 * (3 % 30), 0] S32x128.size (inb6 3), scale (Ex arg1 harg1 arg11 x0 L 3)⟩ : View.Piece (Elt F) S960x128 .f32)) (products_1 c arg2 harg2 arg3 harg3 arg4 harg4 arg5 harg5 arg9 arg10 x1 x2 x3 x4 fh0)) ?_
  refine cons_eq (congrArg (fun L => (⟨Rect.unit (s := S960x128) ![32 * (2 % 30), 0] S32x128.size (inb6 2), scale (Ex arg1 harg1 arg11 x0 L 2)⟩ : View.Piece (Elt F) S960x128 .f32)) (products_1 c arg2 harg2 arg3 harg3 arg4 harg4 arg5 harg5 arg9 arg10 x1 x2 x3 x4 fh0)) ?_
  refine cons_eq (congrArg (fun L => (⟨Rect.unit (s := S960x128) ![32 * (1 % 30), 0] S32x128.size (inb6 1), scale (Ex arg1 harg1 arg11 x0 L 1)⟩ : View.Piece (Elt F) S960x128 .f32)) (products_1 c arg2 harg2 arg3 harg3 arg4 harg4 arg5 harg5 arg9 arg10 x1 x2 x3 x4 fh0)) ?_
  refine cons_eq (congrArg (fun L => (⟨Rect.unit (s := S960x128) ![32 * (0 % 30), 0] S32x128.size (inb6 0), scale (Ex arg1 harg1 arg11 x0 L 0)⟩ : View.Piece (Elt F) S960x128 .f32)) (products_1 c arg2 harg2 arg3 harg3 arg4 harg4 arg5 harg5 arg9 arg10 x1 x2 x3 x4 fh0)) ?_
  rfl

end Cert.KernelIdeal.Dft
-- ==== Proof.Named.lean ====
/- The launch of the kernel with what its three results end with named: if the body, run from any contents of its
   scratch, leaves `G1`, `G2`, `G3`, then so does the whole program. -/
module

public import proofs.«01_k».proof.Proof.RunV
public import proofs.«01_k».proof.Proof.Gen.KernelIdeal.Frame
public import Idealize.ShloMosaic.Lib.Pipeline.FrameValue

@[expose] public section

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-- What the body leaves in the three results at point `t`, from the scratch contents `d0 … d7` and the results'
    contents `g1`, `g2`, `g3` at launch. -/
def left (c : Dev nD) (t : Fin cfg0.N)
    (d0 : Vec F S2x5120x128 .fp8e5m2) (d1 : Vec F S1920x1280 .bf16) (d2 : Vec F S4x384x256 .f32) (d3 : Vec F S2x2x960x128 .fp8e5m2) (d4 : Vec F S15x256x256 .fp8e5m2) (d5 : Vec F S2x3840x128 .f32) (d6 : Vec F S960x128 .f32) (d7 : Vec F S1x960 .f32) :=
  runV c (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _)
    (iblk m c 0 t) (iblk m c 1 t) (iblk m c 2 t) (iblk m c 3 t) (iblk m c 4 t) (V m c main_v0) d0 d1 d2 d3 d4 d5 d6 d7 (V m c main_v1_0) (V m c main_v1_1) (V m c main_v1_2)

/-- The contents the three results end with. -/
structure Final where
  re : (c : Dev nD) → HbBuf0 (F := F) c hbM0_1
  im : (c : Dev nD) → HbBuf0 (F := F) c hbM0_2
  sc : (c : Dev nD) → HbBuf0 (F := F) c hbM0_3

variable (G : Final (F := F))

/-- Every buffer's contents after the launch: the results' at `G`, the others' as the launch found them. -/
def after (c : Dev nD) (b : Ref sig .tc) : Buf (Elt F) ((c.tc : Thread nD τ).loc b) :=
  if h : b = main_v1_0 then h ▸ G.re c else if h : b = main_v1_1 then h ▸ G.im c
  else if h : b = main_v1_2 then h ▸ G.sc c else V m c b

theorem after_re (c : Dev nD) : after m G c main_v1_0 = G.re c := by unfold after; rw [dif_pos rfl]
theorem after_im (c : Dev nD) : after m G c main_v1_1 = G.im c := by unfold after; rw [dif_neg (by decide), dif_pos rfl]
theorem after_sc (c : Dev nD) : after m G c main_v1_2 = G.sc c := by
  unfold after; rw [dif_neg (by decide), dif_neg (by decide), dif_pos rfl]

/-- The invariant's parts, listed, with the results at given contents. -/
theorem PhiDRG_eq (W : (c : Dev nD) → (b : Ref sig .tc) → Buf (Elt F) ((c.tc : Thread nD τ).loc b)) (c : Dev nD) :
    (Pipeline.ΦDRG osem0 spec0 H0 R0 (V m) W c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r) ∗ iprop(semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0) ∗ iprop(hbPt0 c hbM0_0 (V m c main_v0)) ∗ iprop(hbPt0 c hbM0_1 (W c main_v1_0) ∗ hbPt0 c hbM0_2 (W c main_v1_1) ∗ hbPt0 c hbM0_3 (W c main_v1_2))) := by
  have hr : (Pipeline.routed R0 c (W c) : sProp 𝕄) = iprop(hbPt0 c hbM0_1 (W c main_v1_0) ∗ hbPt0 c hbM0_2 (W c main_v1_1) ∗ hbPt0 c hbM0_3 (W c main_v1_2)) := by
    unfold Pipeline.routed; rw [BI.bigSep_eq_bigSepL_of_eq [main_v1_0, main_v1_1, main_v1_2] (by decide) (by decide)]; rfl
  rw [Pipeline.ΦDRG_eq, scopedRest0_eq, ownSems00_eq, hbmPts0_eq, hr]; simp only [scM0_0, scM0_1, scM0_2, scM0_3, scM0_4, scM0_5, scM0_6, scM0_7, owns_whole]; try rfl

/-! ## The pipeline's proof data -/

/-- The proof data of the one pipeline on core `c`: every input's buffer at its block, and the invariant with the
    results as launched before the grid's one point and at `G` after it. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
  Φ t := if t = 0 then Pipeline.ΦDRG osem0 spec0 H0 R0 (V m) (V m) c else Pipeline.ΦDRG osem0 spec0 H0 R0 (V m) (after m G) c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m G 0 c).A w = V m c (Pipeline.arrRef spec0 w) := by
  dsimp only [dats]

/-- What the body leaves, window by window (the proof data's `match` reduced by `dsimp`). -/
theorem after0_0 (c : Dev nD) (t : Fin cfg0.N) : (dats m G 0 c).after 0 t = iblk m c 0 t := by dsimp only [dats]
theorem after0_1 (c : Dev nD) (t : Fin cfg0.N) : (dats m G 0 c).after 1 t = iblk m c 1 t := by dsimp only [dats]
theorem after0_2 (c : Dev nD) (t : Fin cfg0.N) : (dats m G 0 c).after 2 t = iblk m c 2 t := by dsimp only [dats]
theorem after0_3 (c : Dev nD) (t : Fin cfg0.N) : (dats m G 0 c).after 3 t = iblk m c 3 t := by dsimp only [dats]
theorem after0_4 (c : Dev nD) (t : Fin cfg0.N) : (dats m G 0 c).after 4 t = iblk m c 4 t := by dsimp only [dats]

/-- Each input's current staging buffer holds its block at every point, fetched there or not (`beforeK_W_of`). -/
theorem before0_0 (c : Dev nD) (t : Fin cfg0.N) (d) : (dats m G 0 c).before 0 t d = iblk m c 0 t :=
  before0_0_of m (dats m G 0 c) (A_eq m G c 0) (after0_0 m G c) t d
theorem before0_1 (c : Dev nD) (t : Fin cfg0.N) (d) : (dats m G 0 c).before 1 t d = iblk m c 1 t :=
  before0_1_of m (dats m G 0 c) (A_eq m G c 1) (after0_1 m G c) t d
theorem before0_2 (c : Dev nD) (t : Fin cfg0.N) (d) : (dats m G 0 c).before 2 t d = iblk m c 2 t :=
  before0_2_of m (dats m G 0 c) (A_eq m G c 2) (after0_2 m G c) t d
theorem before0_3 (c : Dev nD) (t : Fin cfg0.N) (d) : (dats m G 0 c).before 3 t d = iblk m c 3 t :=
  before0_3_of m (dats m G 0 c) (A_eq m G c 3) (after0_3 m G c) t d
theorem before0_4 (c : Dev nD) (t : Fin cfg0.N) (d) : (dats m G 0 c).before 4 t d = iblk m c 4 t :=
  before0_4_of m (dats m G 0 c) (A_eq m G c 4) (after0_4 m G c) t d

/-! ## The body obligation, at a generic point -/

/-- What the body is called with at point `t` (Lib/Pipeline.lean `BodyObligation`'s precondition, the windows one by one), -/
def bodyPre (c : Dev nD) (t : Fin cfg0.N) : sProp 𝕄 :=
  iprop((dats m G 0 c).Φ t.castSucc ∗ (dats m G 0 c).owesAt () t.castSucc
    ∗ (∃ d, owns (c : Thread nD τ) (ms0_0 t) fullShare ((dats m G 0 c).before 0 t d))
    ∗ (∃ d, owns (c : Thread nD τ) (ms0_1 t) fullShare ((dats m G 0 c).before 1 t d))
    ∗ (∃ d, owns (c : Thread nD τ) (ms0_2 t) fullShare ((dats m G 0 c).before 2 t d))
    ∗ (∃ d, owns (c : Thread nD τ) (ms0_3 t) fullShare ((dats m G 0 c).before 3 t d))
    ∗ (∃ d, owns (c : Thread nD τ) (ms0_4 t) fullShare ((dats m G 0 c).before 4 t d)))

/-- and what it returns. -/
def bodyPost (c : Dev nD) (t : Fin cfg0.N) : sProp 𝕄 :=
  iprop((dats m G 0 c).Φ t.succ ∗ (dats m G 0 c).owesAt () t.succ
    ∗ owns (c : Thread nD τ) (ms0_0 t) fullShare ((dats m G 0 c).after 0 t)
    ∗ owns (c : Thread nD τ) (ms0_1 t) fullShare ((dats m G 0 c).after 1 t)
    ∗ owns (c : Thread nD τ) (ms0_2 t) fullShare ((dats m G 0 c).after 2 t)
    ∗ owns (c : Thread nD τ) (ms0_3 t) fullShare ((dats m G 0 c).after 3 t)
    ∗ owns (c : Thread nD τ) (ms0_4 t) fullShare ((dats m G 0 c).after 4 t))

/-- The grid has one point: before it the invariant holds the results as launched, after it at `G`. -/
theorem Phi_start (c : Dev nD) (t : Fin cfg0.N) : (dats m G 0 c).Φ t.castSucc = Pipeline.ΦDRG osem0 spec0 H0 R0 (V m) (V m) c := by
  have h : (t.castSucc : Fin (cfg0.N + 1)) = 0 := (by decide : ∀ t : Fin cfg0.N, t.castSucc = 0) t
  dsimp only [dats]; rw [if_pos h]
theorem Phi_end (c : Dev nD) (t : Fin cfg0.N) : (dats m G 0 c).Φ t.succ = Pipeline.ΦDRG osem0 spec0 H0 R0 (V m) (after m G) c := by
  have h : (t.succ : Fin (cfg0.N + 1)) ≠ 0 := Fin.succ_ne_zero t
  dsimp only [dats]; rw [if_neg h]

set_option maxHeartbeats 1200000 in
/-- The body at any point: the run applies, and what it leaves in the results is `G`. -/
theorem sound_body (hG : ∀ c t d0 d1 d2 d3 d4 d5 d6 d7, (left m c t d0 d1 d2 d3 d4 d5 d6 d7).1 = (G.re c, G.im c, G.sc c)) (c : Dev nD) (t : Fin cfg0.N) :
    bodyPre m G c t ⊢ wp frame (wpE (defs₀ (F := F)) Variants.none c none) Set.univ (bodyAt0 t) (fun _ => bodyPost m G c t) := by
  unfold bodyPre bodyPost bodyAt0
  simp only [before0_0, before0_1, before0_2, before0_3, before0_4]
  rw [after0_0, after0_1, after0_2, after0_3, after0_4]
  rw [Phi_start, Phi_end, PhiDRG_eq, PhiDRG_eq, after_re, after_im, after_sc]
  unfold Dat.owesAt Pipeline.owesWithin
  rw [show (dats m G 0 c).owed t.castSucc = 0 from rfl, show (dats m G 0 c).owed t.succ = 0 from rfl]
  iintro ⟨⟨⟨⟨%e0, HS0⟩, ⟨%e1, HS1⟩, ⟨%e2, HS2⟩, ⟨%e3, HS3⟩, ⟨%e4, HS4⟩, ⟨%e5, HS5⟩, ⟨%e6, HS6⟩, ⟨%e7, HS7⟩⟩, Hg, ⟨Hq0, Hq1, Hq2, Hq3⟩, Hh0, ⟨Hh1, Hh2, Hh3⟩⟩, ⟨%W, -, HW⟩, ⟨%d0, H0⟩, ⟨%d1, H1⟩, ⟨%d2, H2⟩, ⟨%d3, H3⟩, ⟨%d4, H4⟩⟩
  have hrun := (left m c t e0 e1 e2 e3 e4 e5 e6 e7).2 W
  rw [hG c t e0 e1 e2 e3 e4 e5 e6 e7] at hrun
  iapply (hrun _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [Hq0]; · iexact Hq0
  isplitl [Hq1]; · iexact Hq1
  isplitl [Hq2]; · iexact Hq2
  isplitl [Hq3]; · iexact Hq3
  isplitl [Hh0]; · iexact Hh0
  isplitl [Hh1]; · iexact Hh1
  isplitl [Hh2]; · iexact Hh2
  isplitl [Hh3]; · iexact Hh3
  isplitl [HW]; · iexact HW
  iintro ⟨H0, H1, H2, H3, H4, HS0, HS1, HS2, HS3, HS4, HS5, HS6, HS7, Hq0, Hq1, Hq2, Hq3, Hh0, Hh1, Hh2, Hh3, ⟨%W', HW'⟩⟩
  isplitl [HS0 HS1 HS2 HS3 HS4 HS5 HS6 HS7 Hg Hq0 Hq1 Hq2 Hq3 Hh0 Hh1 Hh2 Hh3]
  · isplitl [HS0 HS1 HS2 HS3 HS4 HS5 HS6 HS7]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      iexact HS7
    isplitl [Hg]
    · iexact Hg
    isplitl [Hq0 Hq1 Hq2 Hq3]
    · isplitl [Hq0]; · iexact Hq0
      isplitl [Hq1]; · iexact Hq1
      isplitl [Hq2]; · iexact Hq2
      iexact Hq3
    isplitl [Hh0]
    · iexact Hh0
    isplitl [Hh1]; · iexact Hh1
    isplitl [Hh2]; · iexact Hh2
    iexact Hh3
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  iexact H4

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (hG : ∀ c t d0 d1 d2 d3 d4 d5 d6 d7, (left m c t d0 d1 d2 d3 d4 d5 d6 d7).1 = (G.re c, G.im c, G.sc c)) (c : Dev nD) : BodyObligation (dats (F := F) m G 0 c) (defs₀ (F := F)) Variants.none () Set.univ := fun t => by
  rw [bigSep_W0, bigSep_W0, defs₀_row]
  exact triple_restated (sound_body m G hG c t) rfl .rfl fun _ => .rfl

/-! ## The run and the frame -/

-- `θ_run_frame_dmaRG`'s implicit arguments are found by unifying its conclusion with this one, which takes unfolding plain
-- definitions in a metavariable's type
set_option backward.isDefEq.respectTransparency.types false in
/-- THE LAUNCH: the results at `G`, the arguments as they were, and every semaphore counter of the machine at zero at every final state. -/
theorem run_named (hG : ∀ c t d0 d1 d2 d3 d4 d5 d6 d7, (left m c t d0 d1 d2 d3 d4 d5 d6 d7).1 = (G.re c, G.im c, G.sc c)) : θ_run defs (onTc (τ := τ) (main (F := F))) (s₀ m ρ) (fun r => (Pipeline.FramePostRG cfgs (dats m G) 0 R0 (V m) (after m G)) r ∧ r.2.sem = fun _ => 0) :=
  Pipeline.θ_run_frame_dmaRG (Q' := _) cfgs (dats m G) (0 : Fin 1) launch0 osem0 defs₀ Variants.none ownSemFacts0 H0 R0 H0_sub R0_sub m ρ main
    (hbody := fun c => (body_obligation m G hG c).loose) (hshare := fun c => (dats m G 0 c).share_full fun _ => rfl)
    (howed := fun _ _ => rfl) (V := V m) (hmain := hmain m Variants.none) (hA := A_eq m G)
    (G := after m G)
    (hin := fun c => by dsimp only [dats]; rw [if_pos rfl])
    (hout := fun c => by dsimp only [dats]; rw [if_neg (by decide)])

/-- The three results after the run, and the arguments unchanged. -/
theorem run_values (hG : ∀ c t d0 d1 d2 d3 d4 d5 d6 d7, (left m c t d0 d1 d2 d3 d4 d5 d6 d7).1 = (G.re c, G.im c, G.sc c)) :
    θ_run defs (onTc (τ := τ) (main (F := F))) (s₀ m ρ) (fun r => ∀ c : Dev nD,
      r.2.mem ((c.tc : Thread nD τ).loc main_v1_0) = G.re c ∧ r.2.mem ((c.tc : Thread nD τ).loc main_v1_1) = G.im c
      ∧ r.2.mem ((c.tc : Thread nD τ).loc main_v1_2) = G.sc c) :=
  (θ_run defs _ _).mono (fun r h c => ⟨(h.1.written c (by decide)).trans (after_re m G c),
    (h.1.written c (by decide)).trans (after_im m G c), (h.1.written c (by decide)).trans (after_sc m G c)⟩) (run_named m ρ G hG)

end Cert.KernelIdeal.Named

end
-- ==== Proof.Rows.lean ====
/- The kernel's scale row: it is read off the scales' square blocks by masking all but the diagonal and adding up the
   columns. And the three results, entry by entry. -/
module

public import proofs.«01_k».proof.Proof.Results
public import proofs.«01_k».proof.Proof.FoundCodes
public import proofs.«01_k».proof.Proof.FoundScales
public import proofs.«01_k».proof.Proof.Named
import all proofs.«01_k».proof.Proof.RunV

@[expose] public section

set_option maxRecDepth 16384
set_option maxHeartbeats 1000000

noncomputable section

namespace Cert.KernelIdeal.Dft

open Cert.KernelIdeal Cert.KernelIdeal.Gen
open Idealize.ShloMosaic Idealize.ShloMosaic.TcCoe Idealize.ShloMosaic.Tactic
open Idealize.ShloMosaic.ValueIdx

section
variable {F : FTy → Type} [FloatOps F] [Named F]

/-- One block of the row: the column sums of a square block whose entries off the diagonal are zero. -/
def diag (u : FVec F S128x128 .f32) : FVec F S1x128 .f32 :=
  shapeCast S1x128 (shapeCast S1x128 (multiReduction .add [0] S128
    (select (cmpi .eq (iota .tc S128x128 32 [0] iota_S128x128_d0_w32) (iota .tc S128x128 32 [1] iota_S128x128_d1_w32)) u (broadcast S128x128 (Scalar.ofBits .f32 0x00000000#32)))
    0x00000000#32 reduces_S128x128_S128 (.inl rfl) rfl) shapeCasts_S128_S1x128) shapeCasts_S1x128_S1x128
/-- The last block has 64 rows only. -/
def diagLast (u : FVec F S64x128 .f32) : FVec F S1x64 .f32 :=
  k0_pay1496 (cmpi .eq (iota .tc S64x128 32 [0] iota_S64x128_d0_w32) (iota .tc S64x128 32 [1] iota_S64x128_d1_w32)) u

variable (arg15 : Memref sig .tc .vmem S960x128 .f32) (L : List (View.Piece (Elt F) S960x128 .f32))
theorem inb7 (q : ℕ) : ∀ a, (![0, 128 * (q % 7)] : Fin 2 → ℕ) a + S1x128.size a ≤ S1x960.size a := by
  intro a; fin_cases a
  · show 0 + 1 ≤ 1; omega
  · show 128 * (q % 7) + 128 ≤ 960; omega
theorem inbS (q : ℕ) : ∀ a, (![128 * (q % 7), 0] : Fin 2 → ℕ) a + S128x128.size a ≤ S960x128.size a := by
  intro a; fin_cases a
  · show 128 * (q % 7) + 128 ≤ 960; omega
  · show 0 + 128 ≤ 128; omega
/-- The row's store for square block `q`. -/
def blk7 (q : ℕ) : View.Piece (Elt F) S1x960 .f32 :=
  ⟨Rect.unit (s := S1x960) ![0, 128 * (q % 7)] S1x128.size (inb7 q), diag (arg15.view.readCov L (Rect.unit (s := S960x128) ![128 * (q % 7), 0] S128x128.size (inbS q)).toLoadRect)⟩
def last7 : View.Piece (Elt F) S1x960 .f32 :=
  ⟨Rect.unit (s := S1x960) ![0, 896] S1x64.size inb_S1x960_S1x64_0_896, diagLast (arg15.view.readCov L (Rect.unit (s := S960x128) ![896, 0] S64x128.size inb_S960x128_S64x128_896_0).toLoadRect)⟩
def L7 : ℕ → List (View.Piece (Elt F) S1x960 .f32)
  | 0 => []
  | q + 1 => blk7 arg15 L q :: L7 q

variable (c : Dev nD) (arg1 : Memref sig .tc .smem S1 .f32) (harg1 : arg1.IsWhole) (arg2 : Memref sig .tc .vmem S32x1280 .f32) (harg2 : arg2.IsWhole)
  (arg3 : Memref sig .tc .vmem S32x1280 .f32) (harg3 : arg3.IsWhole) (arg4 : Memref sig .tc .vmem S32x1280 .f32) (harg4 : arg4.IsWhole)
  (arg5 : Memref sig .tc .vmem S32x1280 .f32) (harg5 : arg5.IsWhole) (arg9 : Memref sig .tc .vmem S2x5120x128 .fp8e5m2)
  (arg10 : Memref sig .tc .vmem S1920x1280 .bf16) (arg11 : Memref sig .tc .vmem S4x384x256 .f32)
  (x0 : Vec F S1 .f32) (x1 : Vec F S32x1280 .f32) (x2 : Vec F S32x1280 .f32) (x3 : Vec F S32x1280 .f32) (x4 : Vec F S32x1280 .f32)
  (fh0 : HbBuf0 (F := F) c hbM0_0)

theorem row_eq : runV.sl.HS7_8 c arg1 harg1 arg2 harg2 arg3 harg3 arg4 harg4 arg5 harg5 arg9 arg10 arg11 arg15 x0 x1 x2 x3 x4 fh0
    = last7 arg15 (runV.sl.HS6_30 c arg1 harg1 arg2 harg2 arg3 harg3 arg4 harg4 arg5 harg5 arg9 arg10 arg11 x0 x1 x2 x3 x4 fh0)
      :: L7 arg15 (runV.sl.HS6_30 c arg1 harg1 arg2 harg2 arg3 harg3 arg4 harg4 arg5 harg5 arg9 arg10 arg11 x0 x1 x2 x3 x4 fh0) 7 := by
  unfold runV.sl.HS7_8
  refine cons_eq rfl ?_
  refine cons_eq (b := blk7 arg15 _ 6) rfl ?_
  refine cons_eq (b := blk7 arg15 _ 5) rfl ?_
  refine cons_eq (b := blk7 arg15 _ 4) rfl ?_
  refine cons_eq (b := blk7 arg15 _ 3) rfl ?_
  refine cons_eq (b := blk7 arg15 _ 2) rfl ?_
  refine cons_eq (b := blk7 arg15 _ 1) rfl ?_
  exact cons_eq (b := blk7 arg15 _ 0) rfl rfl

end

/-! ## The diagonal's entries -/

theorem small_eq (a b : ℕ) (ha : a < 128) (hb : b < 128) : (BitVec.ofNat 32 a = BitVec.ofNat 32 b) ↔ a = b := by
  constructor
  · intro h
    have := congrArg BitVec.toNat h
    rw [BitVec.toNat_ofNat, BitVec.toNat_ofNat] at this
    omega
  · intro h; rw [h]

theorem diag_at (u : FVec Ideal S128x128 .f32) (y : S1x128.Idx) : diag u y = u (ix2 (n0 := 128) (n1 := 128) (y 1) (y 1)) := by
  have h0 : (y 0).val < 1 := (y 0).isLt
  have hy : (y 1).val < 128 := (y 1).isLt
  unfold diag
  rw [shapeCast_self]
  refine (shapeCast_apply _ _ y (ix1 (n := 128) (y 1)) ?_).trans ?_
  · rw [Shape.rowMajor_val_one, Shape.rowMajor_val_two]
    show (y 1).val = (y 0).val * 128 + (y 1).val
    omega
  refine (Ideal.multiReduction_add_single (s := S128x128) (t := S128) (a := 0) _ _ reduces_S128x128_S128 _ _ (ix1 (n := 128) (y 1))).trans ?_
  have hh : ∀ k : Fin 128, (cmpi .eq (iota .tc S128x128 32 [0] iota_S128x128_d0_w32) (iota .tc S128x128 32 [1] iota_S128x128_d1_w32) (reduces_S128x128_S128.lift (ix1 (n := 128) (y 1)) k) = 1#1) ↔ k.val = (y 1).val := by
    intro k
    rw [cmpi_eq_at, iota_single_apply, iota_single_apply]
    exact small_eq k.val (y 1).val k.isLt hy
  refine (Finset.sum_eq_single (y 1 : Fin 128) (fun k _ hk => ?_) (fun h => absurd (Finset.mem_univ _) h)).trans ?_
  · rw [select_at, if_neg (fun h => hk (Fin.ext ((hh k).1 h)))]
    exact Ideal.ofBits_zero_f32
  · rw [select_at, if_pos ((hh (y 1)).2 rfl)]
    refine congrArg u (funext fun a => ?_)
    match a with
    | ⟨0, _⟩ => rfl
    | ⟨1, _⟩ => rfl
theorem diagLast_at (u : FVec Ideal S64x128 .f32) (y : S1x64.Idx) : diagLast u y = u (ix2 (n0 := 64) (n1 := 128) (y 1) ⟨(y 1).val, by have : (y 1).val < 64 := (y 1).isLt; omega⟩) := by
  have h0 : (y 0).val < 1 := (y 0).isLt
  have hy : (y 1).val < 64 := (y 1).isLt
  unfold diagLast k0_pay1496
  dsimp only
  rw [shapeCast_self]
  refine (extractStridedSlice_apply _ _ _ _ (ix2 (n0 := 1) (n1 := 128) (y 0) ⟨(y 1).val, by omega⟩) ?_).trans ?_
  · intro a
    match a with
    | ⟨0, _⟩ => show (y 0).val = 0 + (y 0).val; omega
    | ⟨1, _⟩ => show (y 1).val = 0 + (y 1).val; omega
  refine (shapeCast_apply _ _ _ (ix1 (n := 128) ⟨(y 1).val, by omega⟩) ?_).trans ?_
  · rw [Shape.rowMajor_val_one, Shape.rowMajor_val_two]
    show (y 1).val = (y 0).val * 128 + (y 1).val
    omega
  refine (Ideal.multiReduction_add_single (s := S64x128) (t := S128) (a := 0) _ _ reduces_S64x128_S128 _ _ (ix1 (n := 128) ⟨(y 1).val, by omega⟩)).trans ?_
  have hh : ∀ k : Fin 64, (cmpi .eq (iota .tc S64x128 32 [0] iota_S64x128_d0_w32) (iota .tc S64x128 32 [1] iota_S64x128_d1_w32) (reduces_S64x128_S128.lift (ix1 (n := 128) ⟨(y 1).val, by omega⟩) k) = 1#1) ↔ k.val = (y 1).val := by
    intro k
    rw [cmpi_eq_at, iota_single_apply, iota_single_apply]
    exact small_eq k.val (y 1).val (by omega) (by omega)
  refine (Finset.sum_eq_single (y 1 : Fin 64) (fun k _ hk => ?_) (fun h => absurd (Finset.mem_univ _) h)).trans ?_
  · rw [select_at, if_neg (fun h => hk (Fin.ext ((hh k).1 h)))]
    exact Ideal.ofBits_zero_f32
  · rw [select_at, if_pos ((hh (y 1)).2 rfl)]
    refine congrArg u (funext fun a => ?_)
    match a with
    | ⟨0, _⟩ => rfl
    | ⟨1, _⟩ => rfl

/-- The row's stores cover it. -/
theorem row_cover (arg15 : Memref sig .tc .vmem S960x128 .f32) (L : List (View.Piece (Elt Ideal) S960x128 .f32)) (y : S1x960.Idx) :
    ∃ p ∈ last7 arg15 L :: L7 arg15 L 7, y ∈ p.1.set := by
  have h0 : (y 0).val < 1 := (y 0).isLt
  have h1 : (y 1).val < 960 := (y 1).isLt
  have hcover : ∀ N, N ≤ 7 → (y 1).val / 128 < N → ∃ p ∈ L7 arg15 L N, y ∈ p.1.set := by
    intro N
    induction N with
    | zero => intro _ h; exact absurd h (by omega)
    | succ n ih =>
      intro hn h
      unfold L7
      by_cases hlt : (y 1).val / 128 < n
      · obtain ⟨p, hp, hy⟩ := ih (by omega) hlt
        exact ⟨p, List.mem_cons_of_mem _ hp, hy⟩
      · refine ⟨_, List.mem_cons_self, (Rect.mem_set_unit (inb := inb7 n)).2 ?_⟩
        intro a
        match a with
        | ⟨0, _⟩ => show 0 ≤ (y 0).val ∧ (y 0).val < 0 + 1; omega
        | ⟨1, _⟩ => show 128 * (n % 7) ≤ (y 1).val ∧ (y 1).val < 128 * (n % 7) + 128; omega
  by_cases h : (y 1).val / 128 < 7
  · obtain ⟨p, hp, hy⟩ := hcover 7 le_rfl h
    exact ⟨p, List.mem_cons_of_mem _ hp, hy⟩
  · refine ⟨_, List.mem_cons_self, (Rect.mem_set_unit (inb := inb_S1x960_S1x64_0_896)).2 ?_⟩
    intro a
    match a with
    | ⟨0, _⟩ => show 0 ≤ (y 0).val ∧ (y 0).val < 0 + 1; omega
    | ⟨1, _⟩ => show 896 ≤ (y 1).val ∧ (y 1).val < 896 + 64; omega

/-- The row holding `g m` for mode `m`. -/
def rowOf (g : ℕ → EReal) (y : S1x960.Idx) : EReal := g (y 1).val

/-- The row after its stores, when row `m` of the scales holds `g m`. -/
theorem row_canon (arg15 : Memref sig .tc .vmem S960x128 .f32) (L : List (View.Piece (Elt Ideal) S960x128 .f32)) (g : ℕ → EReal)
    (hL : ∀ y : S960x128.Idx, View.canon L y = g (y 0).val) (y : S1x960.Idx) : View.canon (last7 arg15 L :: L7 arg15 L 7) y = g (y 1).val := by
  have hblk : ∀ q, q < 7 → ∀ x : S1x128.Idx, (blk7 arg15 L q).2 x = g ((blk7 arg15 L q).1.emb x 1).val := by
    intro q hq x
    refine (diag_at _ x).trans ?_
    rw [View.readCov_eq_canon']
    refine (hL _).trans (congrArg g ?_)
    rfl
  have hpieces : ∀ N, N ≤ 7 → ∀ p ∈ L7 arg15 L N, ∀ x : p.1.shape.Idx, p.2 x = g (p.1.emb x 1).val := by
    intro N
    induction N with
    | zero => intro _ p hp; simp [L7] at hp
    | succ n ih =>
      intro hn p hp x
      unfold L7 at hp
      rcases List.mem_cons.1 hp with rfl | hp
      · exact hblk n (by omega) x
      · exact ih (by omega) p hp x
  refine View.canon_apply_of_pieces (Val := Elt Ideal) (e := .f32) (rowOf g) _ ?_ y ?_
  · intro p hp x
    rcases List.mem_cons.1 hp with rfl | hp
    · refine (diagLast_at _ x).trans ?_
      rw [View.readCov_eq_canon']
      exact (hL _).trans (congrArg g rfl)
    · exact hpieces 7 le_rfl p hp x
  · exact row_cover arg15 L y

end Cert.KernelIdeal.Dft
-- ==== Proof.KernelValue.lean ====
/- The kernel's run: its three results hold the codes and the scales. -/
module

public import proofs.«01_k».proof.Proof.Rows
import all proofs.«01_k».proof.Proof.RunV

@[expose] public section

set_option maxRecDepth 16384
set_option maxHeartbeats 1000000

noncomputable section

namespace Cert.KernelIdeal.Dft

open Cert.KernelIdeal Cert.KernelIdeal.Gen
open Idealize.ShloMosaic Idealize.ShloMosaic.TcCoe Idealize.ShloMosaic.Tactic
open Idealize.ShloMosaic.ValueIdx

/-- One of the two halves of the code array, its first axis dropped. -/
theorem cut_at (f : S2x2x960x128.Idx → EReal) (p : ℕ) (inb : ∀ a, (![p, 0, 0, 0] : Fin 4 → ℕ) a + S1x2x960x128.size a ≤ S2x2x960x128.size a)
    (h : S1x2x960x128.ShapeCasts S2x960x128) (y : S2x960x128.Idx) (z : S2x2x960x128.Idx)
    (hz0 : (z 0).val = p) (hz1 : (z 1).val = (y 0).val) (hz2 : (z 2).val = (y 1).val) (hz3 : (z 3).val = (y 2).val) :
    shapeCast S2x960x128 (fun x : S1x2x960x128.Idx => f ((Rect.unit (s := S2x2x960x128) ![p, 0, 0, 0] S1x2x960x128.size inb).emb x)) h y = f z := by
  refine (shapeCast_apply _ h y (ix4 (0 : Fin 1) (y 0) (y 1) (y 2)) ?_).trans ?_
  · rw [Shape.rowMajor_val_four, Shape.rowMajor_val_three]
    show ((0 * 2 + (y 0).val) * 960 + (y 1).val) * 128 + (y 2).val = ((y 0).val * 960 + (y 1).val) * 128 + (y 2).val
    omega
  · refine congrArg f (funext fun a => Fin.ext ?_)
    match a with
    | ⟨0, _⟩ => show p + 1 * 0 = (z 0).val; omega
    | ⟨1, _⟩ => show 0 + 1 * (y 0).val = (z 1).val; omega
    | ⟨2, _⟩ => show 0 + 1 * (y 1).val = (z 2).val; omega
    | ⟨3, _⟩ => show 0 + 1 * (y 2).val = (z 3).val; omega

section
variable (c : Dev nD) (arg1 : Memref sig .tc .smem S1 .f32) (harg1 : arg1.IsWhole) (arg2 : Memref sig .tc .vmem S32x1280 .f32) (harg2 : arg2.IsWhole)
  (arg3 : Memref sig .tc .vmem S32x1280 .f32) (harg3 : arg3.IsWhole) (arg4 : Memref sig .tc .vmem S32x1280 .f32) (harg4 : arg4.IsWhole)
  (arg5 : Memref sig .tc .vmem S32x1280 .f32) (harg5 : arg5.IsWhole) (arg9 : Memref sig .tc .vmem S2x5120x128 .fp8e5m2)
  (arg10 : Memref sig .tc .vmem S1920x1280 .bf16) (arg11 : Memref sig .tc .vmem S4x384x256 .f32)
  (arg12 : Memref sig .tc .vmem S2x2x960x128 .fp8e5m2) (harg12 : arg12.IsWhole) (arg15 : Memref sig .tc .vmem S960x128 .f32) (arg16 : Memref sig .tc .vmem S1x960 .f32) (harg16 : arg16.IsWhole)
  (x0 : Vec Ideal S1 .f32) (x1 : Vec Ideal S32x1280 .f32) (x2 : Vec Ideal S32x1280 .f32) (x3 : Vec Ideal S32x1280 .f32) (x4 : Vec Ideal S32x1280 .f32)
  (fh0 : HbBuf0 (F := Ideal) c hbM0_0) (d3 : Vec Ideal S2x2x960x128 .fp8e5m2) (d7 : Vec Ideal S1x960 .f32)

/-- What the code array's buffer reads after the stores. -/
theorem read_codes : View.read (Elt Ideal) arg12.view (arg12.view.writes (Elt Ideal) (harg12.unread d3)
      (runV.sl.HS3_120 (F := Ideal) c arg1 harg1 arg2 harg2 arg3 harg3 arg4 harg4 arg5 harg5 arg9 arg10 arg11 x0 x1 x2 x3 x4 fh0))
    = G3 x1 x2 x3 x4 (dyArr c fh0) (dys (F := Ideal) arg1 harg1 x0) := by
  rw [codes_eq]
  refine (View.read_writes_eq_canon _ _ _ fun y => L3_cover c arg1 harg1 arg2 harg2 arg3 harg3 arg4 harg4 arg5 harg5 arg9 arg10 arg11 x0 x1 x2 x3 x4 fh0 30 le_rfl y ?_).trans ?_
  · have : (y 2).val < 960 := (y 2).isLt
    omega
  · exact funext fun y => L3_canon c arg1 harg1 arg2 harg2 arg3 harg3 arg4 harg4 arg5 harg5 arg9 arg10 arg11 x0 x1 x2 x3 x4 fh0 y

theorem copy_re (y : S2x960x128.Idx) : runV.sl.dma1886 (F := Ideal) c arg1 harg1 arg2 harg2 arg3 harg3 arg4 harg4 arg5 harg5 arg9 arg10 arg11 arg12 harg12 x0 x1 x2 x3 x4 fh0 d3 y
    = codeAt x1 x2 x3 x4 (dyArr c fh0) (dys (F := Ideal) arg1 harg1 x0) 0 (y 0).val (y 1).val (y 2).val := by
  unfold runV.sl.dma1886
  refine Eq.trans (b := shapeCast S2x960x128 (fun x : S1x2x960x128.Idx => View.read (Elt Ideal) arg12.view (arg12.view.writes (Elt Ideal) (harg12.unread d3)
      (runV.sl.HS3_120 (F := Ideal) c arg1 harg1 arg2 harg2 arg3 harg3 arg4 harg4 arg5 harg5 arg9 arg10 arg11 x0 x1 x2 x3 x4 fh0)) ((Rect.unit (s := S2x2x960x128) ![0, 0, 0, 0] S1x2x960x128.size inb_S2x2x960x128_S1x2x960x128_0_0_0_0).emb x)) (by decide) y) rfl ?_
  rw [read_codes]
  exact cut_at _ 0 _ _ y (ix4 (0 : Fin 2) (y 0) (y 1) (y 2)) rfl rfl rfl rfl
theorem copy_im (y : S2x960x128.Idx) : runV.sl.dma1886_1 (F := Ideal) c arg1 harg1 arg2 harg2 arg3 harg3 arg4 harg4 arg5 harg5 arg9 arg10 arg11 arg12 harg12 x0 x1 x2 x3 x4 fh0 d3 y
    = codeAt x1 x2 x3 x4 (dyArr c fh0) (dys (F := Ideal) arg1 harg1 x0) 1 (y 0).val (y 1).val (y 2).val := by
  unfold runV.sl.dma1886_1
  refine Eq.trans (b := shapeCast S2x960x128 (fun x : S1x2x960x128.Idx => View.read (Elt Ideal) arg12.view (arg12.view.writes (Elt Ideal) (harg12.unread d3)
      (runV.sl.HS3_120 (F := Ideal) c arg1 harg1 arg2 harg2 arg3 harg3 arg4 harg4 arg5 harg5 arg9 arg10 arg11 x0 x1 x2 x3 x4 fh0)) ((Rect.unit (s := S2x2x960x128) ![1, 0, 0, 0] S1x2x960x128.size inb_S2x2x960x128_S1x2x960x128_1_0_0_0).emb x)) (by decide) y) rfl ?_
  rw [read_codes]
  exact cut_at _ 1 _ _ y (ix4 (1 : Fin 2) (y 0) (y 1) (y 2)) rfl rfl rfl rfl
theorem copy_row (y : S1x960.Idx) : runV.sl.dma1910 (F := Ideal) c arg1 harg1 arg2 harg2 arg3 harg3 arg4 harg4 arg5 harg5 arg9 arg10 arg11 arg15 arg16 harg16 x0 x1 x2 x3 x4 fh0 d7 y
    = scaleAt x1 x2 x3 x4 (dyArr c fh0) (dys (F := Ideal) arg1 harg1 x0) (y 1).val := by
  unfold runV.sl.dma1910
  show View.read (Elt Ideal) arg16.view (arg16.view.writes (Elt Ideal) (harg16.unread d7) (runV.sl.HS7_8 (F := Ideal) c arg1 harg1 arg2 harg2 arg3 harg3 arg4 harg4 arg5 harg5 arg9 arg10 arg11 arg15 x0 x1 x2 x3 x4 fh0)) y = _
  rw [row_eq, scales_eq, View.read_writes_eq_canon _ _ _ (row_cover _ _)]
  exact row_canon arg15 _ _ (fun y => L6_canon c arg1 harg1 arg2 harg2 arg3 harg3 arg4 harg4 arg5 harg5 arg9 arg10 arg11 x0 x1 x2 x3 x4 fh0 y) y

theorem dys_at : dys (F := Ideal) arg1 harg1 x0 = x0 (ix1 (0 : Fin 1)) := by
  unfold dys
  refine (harg1.readAt_unread x0 _ _).trans (congrArg x0 (funext fun a => Fin.ext ?_))
  match a with
  | ⟨0, _⟩ => rfl

end

/-! ## The run -/

variable (m : (ℓ : Loc nD τ sig) → Buf (Elt Ideal) ℓ) (ρ : Dev nD → PrngReg)

/-- The incoming codes, as numbers. -/
def dyOf (c : Dev nD) (y : S2x5120x128.Idx) : EReal := Ideal.ofBits .fp8e5m2 ((m ((c : Thread nD τ).loc main_arg0) : S2x5120x128.Idx → BitVec 8) y)
def scOf (c : Dev nD) : EReal := (m ((c : Thread nD τ).loc main_arg1) : S1.Idx → EReal) (ix1 (0 : Fin 1))

theorem blk0 (c : Dev nD) (t : Fin cfg0.N) : (iblk m c 0 t : S1.Idx → EReal) = m ((c : Thread nD τ).loc main_arg1) := by
  refine Eq.trans ?_ (V_main_arg1 m c)
  funext y
  refine congrArg (V m c main_arg1) (funext fun a => Fin.ext ?_)
  match a with
  | ⟨0, _⟩ => show 0 * 1 + 1 * (y 0).val = (y 0).val; omega
theorem blk1 (c : Dev nD) (t : Fin cfg0.N) : (iblk m c 1 t : S32x1280.Idx → EReal) = m ((c : Thread nD τ).loc main_arg2) := by
  refine Eq.trans ?_ (V_main_arg2 m c)
  funext y
  refine congrArg (V m c main_arg2) (funext fun a => Fin.ext ?_)
  match a with
  | ⟨0, _⟩ => show 0 * 32 + 1 * (y 0).val = (y 0).val; omega
  | ⟨1, _⟩ => show 0 * 1280 + 1 * (y 1).val = (y 1).val; omega
theorem blk2 (c : Dev nD) (t : Fin cfg0.N) : (iblk m c 2 t : S32x1280.Idx → EReal) = m ((c : Thread nD τ).loc main_arg3) := by
  refine Eq.trans ?_ (V_main_arg3 m c)
  funext y
  refine congrArg (V m c main_arg3) (funext fun a => Fin.ext ?_)
  match a with
  | ⟨0, _⟩ => show 0 * 32 + 1 * (y 0).val = (y 0).val; omega
  | ⟨1, _⟩ => show 0 * 1280 + 1 * (y 1).val = (y 1).val; omega
theorem blk3 (c : Dev nD) (t : Fin cfg0.N) : (iblk m c 3 t : S32x1280.Idx → EReal) = m ((c : Thread nD τ).loc main_arg4) := by
  refine Eq.trans ?_ (V_main_arg4 m c)
  funext y
  refine congrArg (V m c main_arg4) (funext fun a => Fin.ext ?_)
  match a with
  | ⟨0, _⟩ => show 0 * 32 + 1 * (y 0).val = (y 0).val; omega
  | ⟨1, _⟩ => show 0 * 1280 + 1 * (y 1).val = (y 1).val; omega
theorem blk4 (c : Dev nD) (t : Fin cfg0.N) : (iblk m c 4 t : S32x1280.Idx → EReal) = m ((c : Thread nD τ).loc main_arg5) := by
  refine Eq.trans ?_ (V_main_arg5 m c)
  funext y
  refine congrArg (V m c main_arg5) (funext fun a => Fin.ext ?_)
  match a with
  | ⟨0, _⟩ => show 0 * 32 + 1 * (y 0).val = (y 0).val; omega
  | ⟨1, _⟩ => show 0 * 1280 + 1 * (y 1).val = (y 1).val; omega

abbrev X1 (c : Dev nD) : S32x1280.Idx → EReal := m ((c : Thread nD τ).loc main_arg2)
abbrev X2 (c : Dev nD) : S32x1280.Idx → EReal := m ((c : Thread nD τ).loc main_arg3)
abbrev X3 (c : Dev nD) : S32x1280.Idx → EReal := m ((c : Thread nD τ).loc main_arg4)
abbrev X4 (c : Dev nD) : S32x1280.Idx → EReal := m ((c : Thread nD τ).loc main_arg5)

/-- What the kernel's results end with. -/
def ends : Named.Final (F := Ideal) where
  re c := fun y : S2x960x128.Idx => codeAt (X1 m c) (X2 m c) (X3 m c) (X4 m c) (dyOf m c) (scOf m c) 0 (y 0).val (y 1).val (y 2).val
  im c := fun y : S2x960x128.Idx => codeAt (X1 m c) (X2 m c) (X3 m c) (X4 m c) (dyOf m c) (scOf m c) 1 (y 0).val (y 1).val (y 2).val
  sc c := fun y : S1x960.Idx => scaleAt (X1 m c) (X2 m c) (X3 m c) (X4 m c) (dyOf m c) (scOf m c) (y 1).val

theorem left_eq (c : Dev nD) (t : Fin cfg0.N)
    (d0 : Vec Ideal S2x5120x128 .fp8e5m2) (d1 : Vec Ideal S1920x1280 .bf16) (d2 : Vec Ideal S4x384x256 .f32) (d3 : Vec Ideal S2x2x960x128 .fp8e5m2) (d4 : Vec Ideal S15x256x256 .fp8e5m2) (d5 : Vec Ideal S2x3840x128 .f32) (d6 : Vec Ideal S960x128 .f32) (d7 : Vec Ideal S1x960 .f32) :
    (Named.left m c t d0 d1 d2 d3 d4 d5 d6 d7).1 = ((ends m).re c, (ends m).im c, (ends m).sc c) := by
  have hD : dyArr c (V m c main_v0) = dyOf m c := rfl
  have hs : dys (F := Ideal) (ms0_0 t) (hs0_0 t) (iblk m c 0 t) = scOf m c := by
    rw [dys_at]; exact congrFun (blk0 m c t) _
  unfold Named.left runV
  refine Prod.ext ?_ (Prod.ext ?_ ?_)
  · refine (View.write_whole_univ (Val := Elt Ideal) main_v1_0 _ _).trans (funext fun y => ?_)
    refine (copy_re _ _ _ _ _ _ _ _ _ _ _ _ _ _ _ _ _ _ _ _ _ _ _ y).trans ?_
    rw [hs, hD, blk1, blk2, blk3, blk4]; rfl
  · refine (View.write_whole_univ (Val := Elt Ideal) main_v1_1 _ _).trans (funext fun y => ?_)
    refine (copy_im _ _ _ _ _ _ _ _ _ _ _ _ _ _ _ _ _ _ _ _ _ _ _ y).trans ?_
    rw [hs, hD, blk1, blk2, blk3, blk4]; rfl
  · refine (View.write_whole_univ (Val := Elt Ideal) main_v1_2 _ _).trans (funext fun y => ?_)
    refine (copy_row _ _ _ _ _ _ _ _ _ _ _ _ _ _ _ _ _ _ _ _ _ _ _ _ y).trans ?_
    rw [hs, hD, blk1, blk2, blk3, blk4]; rfl

/-- The kernel's run: its results end as `ends` says. -/
theorem run_ends : θ_run defs (onTc (τ := τ) (main (F := Ideal))) ⟨m, fun _ => 0, ρ⟩ (fun r => ∀ c : Dev nD,
    r.2.mem ((c : Thread nD τ).loc main_v1_0) = (ends m).re c ∧ r.2.mem ((c : Thread nD τ).loc main_v1_1) = (ends m).im c ∧ r.2.mem ((c : Thread nD τ).loc main_v1_2) = (ends m).sc c) :=
  Named.run_values m ρ (ends m) (left_eq m)

end Cert.KernelIdeal.Dft
-- ==== Proof.Angles.lean ====
/- The trigonometry: a transform row of 5120 points from its first quarter. -/
module

public import proofs.«01_k».proof.Proof.Value

@[expose] public section

noncomputable section

namespace Cert.KernelIdeal.Dft

open Idealize.ShloMosaic

/-- The angle step `2π / 5120`. -/
def step : ℝ := Real.pi / 2560

/-- The quarter factors, as reals. -/
def alR (m : ℕ) : ℝ := if m % 4 = 0 then 1 else if m % 4 = 2 then -1 else 0
def beR (m : ℕ) : ℝ := if m % 4 = 1 then 1 else if m % 4 = 3 then -1 else 0
def sgR (m : ℕ) : ℝ := if m % 2 = 0 then 1 else -1

theorem al_coe (m : ℕ) : al m = ((alR m : ℝ) : EReal) := by
  unfold al alR; split_ifs <;> simp
theorem be_coe (m : ℕ) : be m = ((beR m : ℝ) : EReal) := by
  unfold be beR; split_ifs <;> simp
theorem sg_coe (m : ℕ) : sg m = ((sgR m : ℝ) : EReal) := by
  unfold sg sgR; split_ifs <;> simp

theorem quarter_cos (x : ℝ) (p : ℕ) : Real.cos (x + p * (Real.pi / 2)) = alR p * Real.cos x + beR p * (-Real.sin x) := by
  have h : x + p * (Real.pi / 2) = (x + (p % 4 : ℕ) * (Real.pi / 2)) + (p / 4 : ℕ) * (2 * Real.pi) := by
    have : (p : ℝ) = 4 * ((p / 4 : ℕ) : ℝ) + ((p % 4 : ℕ) : ℝ) := by exact_mod_cast (Nat.div_add_mod p 4).symm
    rw [this]; ring
  rw [h, Real.cos_add_nat_mul_two_pi]
  unfold alR beR
  have hp : p % 4 < 4 := Nat.mod_lt _ (by decide)
  generalize p % 4 = r at hp
  interval_cases r
  · simp
  · simp [Real.cos_add_pi_div_two]
  · have : x + ((2 : ℕ) : ℝ) * (Real.pi / 2) = x + Real.pi := by push_cast; ring
    rw [this, Real.cos_add_pi]; simp
  · have : x + ((3 : ℕ) : ℝ) * (Real.pi / 2) = (x + Real.pi / 2) + Real.pi := by push_cast; ring
    rw [this, Real.cos_add_pi, Real.cos_add_pi_div_two]; simp
theorem quarter_sin (x : ℝ) (p : ℕ) : -Real.sin (x + p * (Real.pi / 2)) = alR p * (-Real.sin x) - beR p * Real.cos x := by
  have h : x + p * (Real.pi / 2) = (x + (p % 4 : ℕ) * (Real.pi / 2)) + (p / 4 : ℕ) * (2 * Real.pi) := by
    have : (p : ℝ) = 4 * ((p / 4 : ℕ) : ℝ) + ((p % 4 : ℕ) : ℝ) := by exact_mod_cast (Nat.div_add_mod p 4).symm
    rw [this]; ring
  rw [h, Real.sin_add_nat_mul_two_pi]
  unfold alR beR
  have hp : p % 4 < 4 := Nat.mod_lt _ (by decide)
  generalize p % 4 = r at hp
  interval_cases r
  · simp
  · simp [Real.sin_add_pi_div_two]
  · have : x + ((2 : ℕ) : ℝ) * (Real.pi / 2) = x + Real.pi := by push_cast; ring
    rw [this, Real.sin_add_pi]; simp
  · have : x + ((3 : ℕ) : ℝ) * (Real.pi / 2) = (x + Real.pi / 2) + Real.pi := by push_cast; ring
    rw [this, Real.sin_add_pi, Real.sin_add_pi_div_two]; simp

theorem al_zero (m : ℕ) : alR (m * 0) = 1 ∧ beR (m * 0) = 0 := by simp [alR, beR]
theorem al_two (m : ℕ) : alR (m * 2) = sgR m ∧ beR (m * 2) = 0 := by
  unfold alR beR sgR
  rcases Nat.mod_two_eq_zero_or_one m with h | h
  · have : m * 2 % 4 = 0 := by omega
    simp [this, h]
  · have : m * 2 % 4 = 2 := by omega
    simp [this, h]
theorem al_three (m : ℕ) : alR (m * 3) = sgR m * alR m ∧ beR (m * 3) = sgR m * beR m := by
  unfold alR beR sgR
  have hp : m % 4 < 4 := Nat.mod_lt _ (by decide)
  have h2 : m % 2 = m % 4 % 2 := by omega
  have h3 : m * 3 % 4 = (m % 4) * 3 % 4 := by omega
  rw [h2, h3]
  generalize m % 4 = r at hp
  interval_cases r <;> simp

/-- The cosine row of mode `m`, and minus its sine row. -/
def cosR (m k : ℕ) : ℝ := Real.cos ((m : ℝ) * k * step)
def sinR (m k : ℕ) : ℝ := -Real.sin ((m : ℝ) * k * step)

theorem ang (m j k : ℕ) : (m : ℝ) * ((1280 * j + k : ℕ) : ℝ) * step = (m : ℝ) * k * step + ((m * j : ℕ) : ℝ) * (Real.pi / 2) := by
  unfold step; push_cast; ring
theorem cosR_at (m j k : ℕ) : cosR m (1280 * j + k) = alR (m * j) * cosR m k + beR (m * j) * sinR m k := by
  unfold cosR sinR; rw [ang, quarter_cos]
theorem sinR_at (m j k : ℕ) : sinR m (1280 * j + k) = alR (m * j) * sinR m k - beR (m * j) * cosR m k := by
  unfold cosR sinR; rw [ang, quarter_sin]

/-- A sum over 5120 points is the sum over the four quarters. -/
theorem four (f : ℕ → ℝ) : ∑ n : Fin 5120, f n.val
    = ∑ k : Fin 1280, f (1280 * 0 + k.val) + ∑ k : Fin 1280, f (1280 * 1 + k.val) + ∑ k : Fin 1280, f (1280 * 2 + k.val) + ∑ k : Fin 1280, f (1280 * 3 + k.val) := by
  simp only [Fin.sum_univ_eq_sum_range (fun n => f n) 5120, Fin.sum_univ_eq_sum_range (fun k => f (1280 * 0 + k)) 1280, Fin.sum_univ_eq_sum_range (fun k => f (1280 * 1 + k)) 1280,
    Fin.sum_univ_eq_sum_range (fun k => f (1280 * 2 + k)) 1280, Fin.sum_univ_eq_sum_range (fun k => f (1280 * 3 + k)) 1280]
  rw [show 5120 = 1280 + 1280 + 1280 + 1280 from rfl, Finset.sum_range_add, Finset.sum_range_add, Finset.sum_range_add]
  simp

/-- Row `m` of the transform of the real signal `d`, from quarter sums. -/
def qc (d : ℕ → ℝ) (m j : ℕ) : ℝ := ∑ k : Fin 1280, cosR m k.val * d (1280 * j + k.val)
def qs (d : ℕ → ℝ) (m j : ℕ) : ℝ := ∑ k : Fin 1280, sinR m k.val * d (1280 * j + k.val)

theorem cos_quarter (d : ℕ → ℝ) (m j : ℕ) : ∑ k : Fin 1280, cosR m (1280 * j + k.val) * d (1280 * j + k.val) = alR (m * j) * qc d m j + beR (m * j) * qs d m j := by
  unfold qc qs
  rw [Finset.mul_sum, Finset.mul_sum, ← Finset.sum_add_distrib]
  refine Finset.sum_congr rfl fun k _ => ?_
  rw [cosR_at]; ring
theorem sin_quarter (d : ℕ → ℝ) (m j : ℕ) : ∑ k : Fin 1280, sinR m (1280 * j + k.val) * d (1280 * j + k.val) = alR (m * j) * qs d m j - beR (m * j) * qc d m j := by
  unfold qc qs
  rw [Finset.mul_sum, Finset.mul_sum, ← Finset.sum_sub_distrib]
  refine Finset.sum_congr rfl fun k _ => ?_
  rw [sinR_at]; ring

theorem al_one (m : ℕ) : alR (m * 1) = alR m ∧ beR (m * 1) = beR m := by rw [Nat.mul_one]; exact ⟨rfl, rfl⟩

theorem cos_row (d : ℕ → ℝ) (m : ℕ) : ∑ n : Fin 5120, cosR m n.val * d n.val
    = ((qc d m 0 + sgR m * qc d m 2) + alR m * (qc d m 1 + sgR m * qc d m 3)) + beR m * (qs d m 1 + sgR m * qs d m 3) := by
  rw [four (fun n => cosR m n * d n), cos_quarter, cos_quarter, cos_quarter, cos_quarter,
    (al_zero m).1, (al_zero m).2, (al_one m).1, (al_one m).2, (al_two m).1, (al_two m).2, (al_three m).1, (al_three m).2]
  ring
theorem sin_row (d : ℕ → ℝ) (m : ℕ) : ∑ n : Fin 5120, sinR m n.val * d n.val
    = ((qs d m 0 + sgR m * qs d m 2) + alR m * (qs d m 1 + sgR m * qs d m 3)) - beR m * (qc d m 1 + sgR m * qc d m 3) := by
  rw [four (fun n => sinR m n * d n), sin_quarter, sin_quarter, sin_quarter, sin_quarter,
    (al_zero m).1, (al_zero m).2, (al_one m).1, (al_one m).2, (al_two m).1, (al_two m).2, (al_three m).1, (al_three m).2]
  ring

/-! ## On the kernel's extended reals -/

theorem coe_sum {n : ℕ} (f : Fin n → ℝ) : (∑ k : Fin n, ((f k : ℝ) : EReal)) = ((∑ k : Fin n, f k : ℝ) : EReal) := by
  induction n with
  | zero => simp
  | succ n ih => rw [Fin.sum_univ_castSucc, Fin.sum_univ_castSucc, ih (fun k => f k.castSucc), EReal.coe_add]

/-- The tables hold the sines and cosines they are named for. -/
structure Exact (x1 x2 x3 x4 : ℕ → ℕ → EReal) : Prop where
  tc : ∀ i k, i < 32 → k < 1280 → x1 i k = ((Real.cos ((i : ℝ) * k * step) : ℝ) : EReal)
  ts : ∀ i k, i < 32 → k < 1280 → x2 i k = ((Real.sin ((i : ℝ) * k * step) : ℝ) : EReal)
  rc : ∀ i k, i < 32 → k < 1280 → x3 i k = ((Real.cos ((i : ℝ) * k * 32 * step) : ℝ) : EReal)
  rs : ∀ i k, i < 32 → k < 1280 → x4 i k = ((Real.sin ((i : ℝ) * k * 32 * step) : ℝ) : EReal)

section
variable (x1 x2 x3 x4 : Cert.KernelIdeal.S32x1280.Idx → EReal) (D : Cert.KernelIdeal.S2x5120x128.Idx → EReal)
variable (hX : Exact (at2 x1) (at2 x2) (at2 x3) (at2 x4))

include hX in
theorem base_re (n i k : ℕ) (hn : n < 30) (hi : i < 32) (hk : k < 1280) : base x1 x2 x3 x4 0 n i k = ((cosR (32 * n + i) k : ℝ) : EReal) := by
  unfold base
  rw [if_pos rfl, hX.tc i k hi hk, hX.ts i k hi hk, hX.rc n k (by omega) hk, hX.rs n k (by omega) hk, ← EReal.coe_mul, ← EReal.coe_mul, ← EReal.coe_sub]
  congr 1
  unfold cosR
  rw [← Real.cos_add]
  congr 1
  push_cast; ring
include hX in
theorem base_im (n i k : ℕ) (hn : n < 30) (hi : i < 32) (hk : k < 1280) : base x1 x2 x3 x4 1 n i k = ((sinR (32 * n + i) k : ℝ) : EReal) := by
  unfold base
  rw [if_neg (by decide), hX.tc i k hi hk, hX.ts i k hi hk, hX.rc n k (by omega) hk, hX.rs n k (by omega) hk, ← EReal.coe_mul, ← EReal.coe_mul, ← EReal.coe_add, ← EReal.coe_zero, ← EReal.coe_sub]
  congr 1
  unfold sinR
  have : ((32 * n + i : ℕ) : ℝ) * k * step = (n : ℝ) * k * 32 * step + (i : ℝ) * k * step := by push_cast; ring
  rw [this, Real.sin_add]; ring

variable (d : ℕ → ℕ → ℕ → ℝ) (hD : ∀ b n l, b < 2 → n < 5120 → l < 128 → at3 D b n l = ((d b n l : ℝ) : EReal))
include hX hD

theorem part_re (j n i q : ℕ) (hj : j < 4) (hn : n < 30) (hi : i < 32) (hq : q < 256) :
    part x1 x2 x3 x4 D 0 j n i q = ((qc (fun k => d (q / 128) k (q % 128)) (32 * n + i) j : ℝ) : EReal) := by
  unfold part qc
  rw [← coe_sum]
  refine Finset.sum_congr rfl fun k _ => ?_
  have hk : k.val < 1280 := k.isLt
  rw [base_re x1 x2 x3 x4 hX n i k hn hi hk, hD _ _ _ (by omega) (by omega) (by omega), ← EReal.coe_mul]
theorem part_im (j n i q : ℕ) (hj : j < 4) (hn : n < 30) (hi : i < 32) (hq : q < 256) :
    part x1 x2 x3 x4 D 1 j n i q = ((qs (fun k => d (q / 128) k (q % 128)) (32 * n + i) j : ℝ) : EReal) := by
  unfold part qs
  rw [← coe_sum]
  refine Finset.sum_congr rfl fun k _ => ?_
  have hk : k.val < 1280 := k.isLt
  rw [base_im x1 x2 x3 x4 hX n i k hn hi hk, hD _ _ _ (by omega) (by omega) (by omega), ← EReal.coe_mul]

/-- The kernel's real part of mode `32 n + i` is the transform's. -/
theorem reOf_eq (r : EReal) (n i q : ℕ) (hn : n < 30) (hi : i < 32) (hq : q < 256) :
    reOf x1 x2 x3 x4 D r n i q = (∑ k : Fin 5120, ((cosR (32 * n + i) k.val : ℝ) : EReal) * at3 D (q / 128) k.val (q % 128)) * cf r (32 * n + i) := by
  have hs : (∑ k : Fin 5120, ((cosR (32 * n + i) k.val : ℝ) : EReal) * at3 D (q / 128) k.val (q % 128)) = ((∑ k : Fin 5120, cosR (32 * n + i) k.val * d (q / 128) k.val (q % 128) : ℝ) : EReal) := by
    rw [← coe_sum]
    refine Finset.sum_congr rfl fun k _ => ?_
    have hk : k.val < 5120 := k.isLt
    rw [hD _ _ _ (by omega) hk (by omega), ← EReal.coe_mul]
  rw [hs, cos_row (fun k => d (q / 128) k (q % 128))]
  unfold reOf ev od
  rw [part_re x1 x2 x3 x4 D hX d hD 0 n i q (by omega) hn hi hq, part_re x1 x2 x3 x4 D hX d hD 1 n i q (by omega) hn hi hq, part_re x1 x2 x3 x4 D hX d hD 2 n i q (by omega) hn hi hq, part_re x1 x2 x3 x4 D hX d hD 3 n i q (by omega) hn hi hq,
    part_im x1 x2 x3 x4 D hX d hD 1 n i q (by omega) hn hi hq, part_im x1 x2 x3 x4 D hX d hD 3 n i q (by omega) hn hi hq, sg_coe, al_coe, be_coe]
  simp only [← EReal.coe_mul, ← EReal.coe_add]
/-- The kernel's imaginary part of mode `32 n + i` is the transform's. -/
theorem imOf_eq (r : EReal) (n i q : ℕ) (hn : n < 30) (hi : i < 32) (hq : q < 256) :
    imOf x1 x2 x3 x4 D r n i q = (∑ k : Fin 5120, ((sinR (32 * n + i) k.val : ℝ) : EReal) * at3 D (q / 128) k.val (q % 128)) * cf r (32 * n + i) := by
  have hs : (∑ k : Fin 5120, ((sinR (32 * n + i) k.val : ℝ) : EReal) * at3 D (q / 128) k.val (q % 128)) = ((∑ k : Fin 5120, sinR (32 * n + i) k.val * d (q / 128) k.val (q % 128) : ℝ) : EReal) := by
    rw [← coe_sum]
    refine Finset.sum_congr rfl fun k _ => ?_
    have hk : k.val < 5120 := k.isLt
    rw [hD _ _ _ (by omega) hk (by omega), ← EReal.coe_mul]
  rw [hs, sin_row (fun k => d (q / 128) k (q % 128))]
  unfold imOf ev od
  rw [part_re x1 x2 x3 x4 D hX d hD 1 n i q (by omega) hn hi hq, part_re x1 x2 x3 x4 D hX d hD 3 n i q (by omega) hn hi hq,
    part_im x1 x2 x3 x4 D hX d hD 0 n i q (by omega) hn hi hq, part_im x1 x2 x3 x4 D hX d hD 1 n i q (by omega) hn hi hq, part_im x1 x2 x3 x4 D hX d hD 2 n i q (by omega) hn hi hq, part_im x1 x2 x3 x4 D hX d hD 3 n i q (by omega) hn hi hq, sg_coe, al_coe, be_coe]
  simp only [← EReal.coe_mul, ← EReal.coe_add, ← EReal.coe_sub]

end

end Cert.KernelIdeal.Dft
-- ==== Proof.RefEntries.lean ====
/- The plain transform, entry by entry: what each array of the reference's body holds. -/
module

public import proofs.«01_k».proof.Proof.Angles
public import proofs.«01_k».proof.Proof.Gen.ReferenceIdeal.Value
public import Idealize.ShloMosaic.Lib.Routing.Words

@[expose] public section

noncomputable section

namespace Cert.ReferenceIdeal.Dft

open Cert.ReferenceIdeal Cert.ReferenceIdeal.Gen
open Idealize.ShloMosaic Idealize.ShloMosaic.TcCoe Idealize.ShloMosaic.ValueIdx
open Cert.KernelIdeal.Dft (cf clip cosR sinR select_at cmpi_eq_at cmpf_oeq_at at3 step)

/-- The remainder of a product of two counters, as the body forms it: the correction for a negative remainder never applies. -/
theorem mod_word (u : ArithUnit) (a : ℕ) (ha : a < 2 ^ 31) (w : BitVec 32) (hw : w = IntOp.remsi u (BitVec.ofNat 32 a) 5120#32) :
    (if ((BitVec.ofBool (w.slt 0#32) ^^^ 0#1) &&& BitVec.ofBool (w != 0#32)) = 1#1 then w + 5120#32 else w).toInt = ((a % 5120 : ℕ) : ℤ) := by
  have e : w = BitVec.ofNat 32 (a % 5120) := hw.trans (Routing.remsi_word u ha (by decide) (by decide))
  have hlt : a % 5120 < 5120 := Nat.mod_lt _ (by decide)
  have ht : w.toInt = ((a % 5120 : ℕ) : ℤ) := by
    rw [e, BitVec.toInt_eq_toNat_cond, BitVec.toNat_ofNat, Nat.mod_eq_of_lt (lt_trans hlt (by decide)), if_pos (by omega)]
  have hs : w.slt 0#32 = false := by
    rw [BitVec.slt_eq_decide, ht]
    simp
    omega
  rw [hs, if_neg (by simp), ht]

/-- The angle of mode `m` at point `n`. -/
theorem angle_at (y : S960x5120.Idx) : (k0_pay2 (F := Ideal) y : EReal)
    = (((((y 1).val * (y 0).val % 5120 : ℕ) : ℝ) * (Real.pi * (1 / 2560)) : ℝ) : EReal) := by
  have h0 : (y 0).val < 960 := (y 0).isLt
  have h1 : (y 1).val < 5120 := (y 1).isLt
  have hn : (Named.named (F := Ideal) κ "two_pi_over_seq" (φ := .f32) 0x3AA0D97C#32 : EReal) = ((Real.pi * (1 / 2560) : ℝ) : EReal) :=
    IdealRules.named_const.ideal_named_scalar _ _ _ _ rfl
  have hlt : (y 1).val * (y 0).val < 2 ^ 31 := lt_of_le_of_lt (Nat.mul_le_mul (le_of_lt h1) (le_of_lt h0)) (by decide)
  have hp : iota .tc S960x5120 32 [1] iota_S960x5120_d1_w32 y * iota .tc S960x5120 32 [0] iota_S960x5120_d0_w32 y = BitVec.ofNat 32 ((y 1).val * (y 0).val) := by
    rw [iota_single_apply, iota_single_apply, ← BitVec.ofNat_mul]
  have hw := mod_word .vector ((y 1).val * (y 0).val) hlt (IntOp.remsi .vector (BitVec.ofNat 32 ((y 1).val * (y 0).val)) 5120#32) rfl
  unfold k0_pay2
  refine Eq.trans (b := (((if ((BitVec.ofBool ((IntOp.remsi .vector (iota .tc S960x5120 32 [1] iota_S960x5120_d1_w32 y * iota .tc S960x5120 32 [0] iota_S960x5120_d0_w32 y) 5120#32).slt 0#32) ^^^ 0#1) &&& BitVec.ofBool (IntOp.remsi .vector (iota .tc S960x5120 32 [1] iota_S960x5120_d1_w32 y * iota .tc S960x5120 32 [0] iota_S960x5120_d0_w32 y) 5120#32 != 0#32)) = 1#1 then IntOp.remsi .vector (iota .tc S960x5120 32 [1] iota_S960x5120_d1_w32 y * iota .tc S960x5120 32 [0] iota_S960x5120_d0_w32 y) 5120#32 + 5120#32 else IntOp.remsi .vector (iota .tc S960x5120 32 [1] iota_S960x5120_d1_w32 y * iota .tc S960x5120 32 [0] iota_S960x5120_d0_w32 y) 5120#32).toInt : ℝ) : EReal) * Named.named (F := Ideal) κ "two_pi_over_seq" (φ := .f32) 0x3AA0D97C#32) rfl ?_
  rw [hp, hw, hn, ← EReal.coe_mul]
  norm_cast

theorem turn (a : ℕ) : ((a % 5120 : ℕ) : ℝ) * (Real.pi * (1 / 2560)) + ((a / 5120 : ℕ) : ℝ) * (2 * Real.pi) = (a : ℝ) * step := by
  have : (a : ℝ) = 5120 * ((a / 5120 : ℕ) : ℝ) + ((a % 5120 : ℕ) : ℝ) := by exact_mod_cast (Nat.div_add_mod a 5120).symm
  unfold step
  rw [this]; ring

theorem cos_at (y : S960x5120.Idx) : (k0_pay3 (F := Ideal) y : EReal) = ((cosR (y 0).val (y 1).val : ℝ) : EReal) := by
  show Ideal.cos (k0_pay2 (F := Ideal) y) = _
  rw [angle_at, Ideal.cos_coe]
  congr 1
  unfold cosR
  rw [← Real.cos_add_nat_mul_two_pi _ ((y 1).val * (y 0).val / 5120), turn]
  push_cast
  congr 1; ring
theorem sin_at (y : S960x5120.Idx) : (k0_pay4 (F := Ideal) y : EReal) = ((sinR (y 0).val (y 1).val : ℝ) : EReal) := by
  show Ideal.ofBits .f32 0x00000000#32 - Ideal.sin (k0_pay2 (F := Ideal) y) = _
  rw [angle_at, Ideal.sin_coe, Ideal.ofBits_zero_f32, zero_sub, ← EReal.coe_neg]
  congr 1
  unfold sinR
  rw [← Real.sin_add_nat_mul_two_pi _ ((y 1).val * (y 0).val / 5120), turn]
  push_cast
  congr 2; ring

theorem coef_at (r : EReal) (y : S960x128.Idx) : (k0_pay5 (F := Ideal) r y : EReal) = cf r (y 0).val := by
  have h0 : (y 0).val < 960 := (y 0).isLt
  unfold k0_pay5 cf
  show r * Ideal.div (select (cmpi .eq (iota .tc S960x128 32 [0] iota_S960x128_d0_w32) (broadcast S960x128 0#32)) (broadcast S960x128 (Ideal.ofBits .f32 0x3F800000#32)) (broadcast S960x128 (Ideal.ofBits .f32 0x40000000#32)) y) (Ideal.ofBits .f32 0x45A00000#32) = _
  rw [select_at]
  simp only [cmpi_eq_at]
  have e : (iota .tc S960x128 32 [0] iota_S960x128_d0_w32 y = (broadcast S960x128 0#32 : IVec S960x128 32) y) ↔ ((y 0).val = 0) := by
    rw [iota_single_apply]
    constructor
    · intro h
      have := congrArg BitVec.toNat h
      rw [BitVec.toNat_ofNat] at this
      have h' : (y 0).val % 2 ^ 32 = 0 := this
      omega
    · intro h; rw [h]; rfl
  simp only [e]
  show r * Ideal.div (if (y 0).val = 0 then Ideal.ofBits .f32 0x3F800000#32 else Ideal.ofBits .f32 0x40000000#32) _ = _
  rw [Ideal.ofBits_one_f32]

/-- One batch, its first axis dropped. -/
theorem flat_at (v : Vec Ideal S1x5120x128 .fp8e5m2) (y : S5120x128.Idx) : (k0_pay6 (F := Ideal) v y : EReal) = v (ix3 (0 : Fin 1) (y 0) (y 1)) := by
  show shapeCast S5120x128 v shapeCasts_S1x5120x128_S5120x128 y = _
  refine shapeCast_apply _ _ y _ ?_
  rw [Shape.rowMajor_val_three, Shape.rowMajor_val_two]
  show (0 * 5120 + (y 0).val) * 128 + (y 1).val = (y 0).val * 128 + (y 1).val
  omega

/-! ## The products -/

/-- One part of the plain transform: row `m` of the table against lane `l` of batch `b`, times the factor. -/
def plain (T : ℕ → ℕ → ℝ) (D : S2x5120x128.Idx → EReal) (r : EReal) (m q : ℕ) : EReal :=
  (∑ k : Fin 5120, ((T m k.val : ℝ) : EReal) * at3 D (q / 128) k.val (q % 128)) * cf r m

section
variable (D : S2x5120x128.Idx → EReal) (r : EReal) (T : ℕ → ℕ → ℝ) (W : FVec Ideal S960x5120 .bf16) (hW : ∀ y : S960x5120.Idx, (W y : EReal) = ((T (y 0).val (y 1).val : ℝ) : EReal))
  (v : Vec Ideal S1x5120x128 .fp8e5m2) (b : ℕ) (hv : ∀ y : S1x5120x128.Idx, (v y : EReal) = at3 D b (y 1).val (y 2).val)
include hW hv

theorem prod_at (y : S960x128.Idx) : (k0_pay8 (F := Ideal) W (k0_pay5 (F := Ideal) r) (k0_pay6 v) y : EReal) = plain T D r (y 0).val (128 * b + (y 1).val) := by
  have h1 : (y 1).val < 128 := (y 1).isLt
  show matmul dot_S960x5120_S5120x128_S960x128_1_0_0_1_n_n none W (k0_pay6 v) (constant (F := Ideal) S960x128 .f32 0x00000000#32) y * k0_pay5 (F := Ideal) r y = _
  rw [coef_at]
  unfold plain
  refine congrArg (· * cf r (y 0).val) ?_
  have hy : y = ix2 (n0 := 960) (n1 := 128) (y 0) (y 1) := by funext a; match a with | ⟨0, _⟩ => rfl | ⟨1, _⟩ => rfl
  have hz : (constant (F := Ideal) S960x128 .f32 0x00000000#32 : FVec Ideal S960x128 .f32) (ix2 (n0 := 960) (n1 := 128) (y 0) (y 1)) = 0 := Ideal.ofBits_zero_f32
  rw [hy]
  refine (Ideal.matmul_plain_apply (M := 960) (K := 5120) (N := 128) none _ _ _ (y 0) (y 1)).trans ?_
  rw [hz, zero_add]
  refine Finset.sum_congr rfl fun k _ => ?_
  rw [hW, flat_at, hv, show (128 * b + (y 1).val) / 128 = b by omega, show (128 * b + (y 1).val) % 128 = (y 1).val by omega]

end

/-! ## The row maxima and the exponent -/

/-- The larger magnitude of a row of 128. -/
def half (u : ℕ → EReal) (b : ℕ) : EReal :=
  (Finset.univ : Finset (Fin 128)).fold max (Ideal.ofBits .f32 0xFF800000#32) (fun l => max (u (128 * b + l.val)) (-(u (128 * b + l.val))))
/-- The largest magnitude of a mode. -/
def amax (u v : ℕ → EReal) : EReal := max (max (max (half u 0) (half u 1)) (half v 0)) (half v 1)
/-- The exponent from the largest magnitude. -/
def exR (t : EReal) : EReal :=
  if t = 0 then 0 else Ideal.liftRound Int.floor (Ideal.log (t * Ideal.ofBits .f32 0x37924925#32) * Named.named (F := Ideal) κ "inv_ln_two" (φ := .f32) 0x3FB8AA3B#32) + 1

theorem half_at (g : ℕ → ℕ → EReal) (b : ℕ) (P : FVec Ideal S960x128 .f32) (hP : ∀ y : S960x128.Idx, (P y : EReal) = g (y 0).val (128 * b + (y 1).val)) (y : S960x1.Idx) :
    (shapeCast S960x1 (multiReduction (F := Ideal) .maximumf [1] S960 (absf P) 0xFF800000#32 reduces_S960x128_S960 (.inl rfl) rfl) shapeCasts_S960_S960x1 y : EReal) = half (g (y 0).val) b := by
  have h1 : (y 1).val < 1 := (y 1).isLt
  refine (shapeCast_apply _ _ y (ix1 (n := 960) (y 0)) ?_).trans ?_
  · rw [Shape.rowMajor_val_one, Shape.rowMajor_val_two]
    show (y 0).val = (y 0).val * 1 + (y 1).val
    omega
  refine (Ideal.multiReduction_maximumf_single (s := S960x128) (t := S960) (a := 1) _ _ reduces_S960x128_S960 _ _ (ix1 (n := 960) (y 0))).trans ?_
  unfold half
  refine congrArg (fun F => (Finset.univ : Finset (Fin 128)).fold max (Ideal.ofBits .f32 0xFF800000#32) F) (funext fun q => ?_)
  show max (P _) (-(P _)) = _
  rw [hP]
  rfl

/-- The exponent of four columns of row maxima. -/
theorem exp_chain (a b c d : FVec Ideal S960x1 .f32) (y : S960x1.Idx) :
    (select (cmpf .oeq (maximumf (maximumf (maximumf a b) c) d) (broadcast S960x1 (Scalar.ofBits (F := Ideal) .f32 0x00000000#32))) (broadcast S960x1 (Scalar.ofBits (F := Ideal) .f32 0x00000000#32))
      (addf (floor (mulf (log (mulf (maximumf (maximumf (maximumf a b) c) d) (broadcast S960x1 (Scalar.ofBits (F := Ideal) .f32 0x37924925#32)))) (broadcast S960x1 (Named.named (F := Ideal) κ "inv_ln_two" (φ := .f32) 0x3FB8AA3B#32)))) (broadcast S960x1 (Scalar.ofBits (F := Ideal) .f32 0x3F800000#32))) y : EReal)
      = exR (max (max (max (a y) (b y)) (c y)) (d y)) := by
  rw [select_at]
  simp only [cmpf_oeq_at]
  unfold exR
  show (if (max (max (max (a y) (b y)) (c y)) (d y) : EReal) = Ideal.ofBits .f32 0x00000000#32 then Ideal.ofBits .f32 0x00000000#32 else
    Ideal.liftRound Int.floor (Ideal.log (max (max (max (a y) (b y)) (c y)) (d y) * Ideal.ofBits .f32 0x37924925#32) * Named.named (F := Ideal) κ "inv_ln_two" (φ := .f32) 0x3FB8AA3B#32) + Ideal.ofBits .f32 0x3F800000#32) = _
  rw [Ideal.ofBits_zero_f32, Ideal.ofBits_one_f32]

section
variable (D : S2x5120x128.Idx → EReal) (r : EReal) (v w : Vec Ideal S1x5120x128 .fp8e5m2)
  (hv : ∀ y : S1x5120x128.Idx, (v y : EReal) = at3 D 0 (y 1).val (y 2).val) (hw : ∀ y : S1x5120x128.Idx, (w y : EReal) = at3 D 1 (y 1).val (y 2).val)
include hv hw

/-- The exponent of mode `m`. -/
def expR (m : ℕ) : EReal := exR (amax (plain cosR D r m) (plain sinR D r m))
omit hv hw in
theorem expR_eq (m : ℕ) : expR D r m = exR (amax (plain cosR D r m) (plain sinR D r m)) := rfl

theorem exp_at (y : S960x1.Idx) : (k0_pay12 (F := Ideal) k0_pay3 k0_pay4 (k0_pay5 (F := Ideal) r) (k0_pay6 v) w y : EReal) = expR D r (y 0).val := by
  unfold k0_pay12 expR
  refine (exp_chain _ _ _ _ y).trans ?_
  unfold amax
  exact congrArg exR (congrArg₂ max (congrArg₂ max (congrArg₂ max
    (half_at (plain cosR D r) 0 _ (prod_at D r cosR k0_pay3 cos_at v 0 hv) y) (half_at (plain cosR D r) 1 _ (prod_at D r cosR k0_pay3 cos_at w 1 hw) y))
    (half_at (plain sinR D r) 0 _ (prod_at D r sinR k0_pay4 sin_at v 0 hv) y)) (half_at (plain sinR D r) 1 _ (prod_at D r sinR k0_pay4 sin_at w 1 hw) y))

end

/-- A part's codes: the scaled entry, held in the format's range. -/
theorem code_at (P : FVec Ideal S960x128 .f32) (e : FVec Ideal S960x1 .f32) (g : ℕ → EReal) (hg : ∀ y : S960x1.Idx, (e y : EReal) = Ideal.exp2 (0 - g (y 0).val)) (y : S1x960x128.Idx) :
    (k0_pay16 (F := Ideal) P e y : EReal) = clip (P (ix2 (n0 := 960) (n1 := 128) (y 1) (y 2))) (g (y 1).val) := by
  have h0 : (y 0).val < 1 := (y 0).isLt
  unfold k0_pay16
  refine (shapeCast_apply _ _ y (ix2 (n0 := 960) (n1 := 128) (y 1) (y 2)) ?_).trans ?_
  · rw [Shape.rowMajor_val_three, Shape.rowMajor_val_two]
    show (y 1).val * 128 + (y 2).val = ((y 0).val * 960 + (y 1).val) * 128 + (y 2).val
    omega
  have hb : (broadcastTo S960x128 e broadcasts_S960x1_S960x128 (ix2 (n0 := 960) (n1 := 128) (y 1) (y 2)) : EReal) = Ideal.exp2 (0 - g (y 1).val) := by
    refine (broadcastTo_apply _ _ _ (ix2 (n0 := 960) (n1 := 1) (y 1) 0) ?_).trans (hg _)
    intro a
    match a with
    | ⟨0, _⟩ => rfl
    | ⟨1, _⟩ => rfl
  unfold clip
  rw [← hb]
  rfl

/-- The row of scales. -/
theorem scale_at (e : FVec Ideal S960x1 .f32) (y : S1x960.Idx) : (k0_pay1 (F := Ideal) e y : EReal) = Ideal.exp2 (e (ix2 (n0 := 960) (n1 := 1) (y 1) 0)) := by
  have h0 : (y 0).val < 1 := (y 0).isLt
  unfold k0_pay1
  refine (shapeCast_apply _ _ y (ix2 (n0 := 960) (n1 := 1) (y 1) 0) ?_).trans rfl
  rw [Shape.rowMajor_val_two, Shape.rowMajor_val_two]
  show (y 1).val * 1 + 0 = (y 0).val * 960 + (y 1).val
  omega

end Cert.ReferenceIdeal.Dft
-- ==== Proof.RefValue.lean ====
/- The reference's run: its three results hold the codes and the scales of the plain transform. -/
module

public import proofs.«01_k».proof.Proof.RefEntries

@[expose] public section

noncomputable section

namespace Cert.ReferenceIdeal.Dft

open Cert.ReferenceIdeal Cert.ReferenceIdeal.Gen
open Idealize.ShloMosaic Idealize.ShloMosaic.TcCoe Idealize.ShloMosaic.ValueIdx
open Cert.KernelIdeal.Dft (clip cosR sinR at3 at3_of)

section
variable (D : S2x5120x128.Idx → EReal) (r : EReal)

def codesOf (T : ℕ → ℕ → ℝ) (y : S2x960x128.Idx) : EReal := clip (plain T D r (y 1).val (128 * (y 0).val + (y 2).val)) (expR D r (y 1).val)
def scalesOf (y : S1x960.Idx) : EReal := Ideal.exp2 (expR D r (y 1).val)

variable (v w : Vec Ideal S1x5120x128 .fp8e5m2)
  (hv : ∀ y : S1x5120x128.Idx, (v y : EReal) = at3 D 0 (y 1).val (y 2).val) (hw : ∀ y : S1x5120x128.Idx, (w y : EReal) = at3 D 1 (y 1).val (y 2).val)
include hv hw

theorem down_at (y : S960x1.Idx) : (k0_pay13 (F := Ideal) k0_pay3 k0_pay4 (k0_pay5 (F := Ideal) r) (k0_pay6 v) w y : EReal) = Ideal.exp2 (0 - expR D r (y 0).val) := by
  have h := exp_at D r v w hv hw y
  unfold k0_pay13
  generalize k0_pay12 (F := Ideal) k0_pay3 k0_pay4 (k0_pay5 (F := Ideal) r) (k0_pay6 v) w = e at h ⊢
  show Ideal.exp2 (Ideal.ofBits .f32 0x00000000#32 - e y) = _
  rw [Ideal.ofBits_zero_f32, h]

/-- One stored block of codes. -/
theorem piece_at (T : ℕ → ℕ → ℝ) (P : FVec Ideal S960x128 .f32) (b : ℕ) (hb : b < 2)
    (hP : ∀ y : S960x128.Idx, (P y : EReal) = plain T D r (y 0).val (128 * b + (y 1).val))
    (inb : ∀ a, (![b, 0, 0] : Fin 3 → ℕ) a + S1x960x128.size a ≤ S2x960x128.size a) (x : S1x960x128.Idx) :
    (k0_pay16 (F := Ideal) P (k0_pay13 (F := Ideal) k0_pay3 k0_pay4 (k0_pay5 (F := Ideal) r) (k0_pay6 v) w) x : EReal)
      = codesOf D r T ((Rect.unit (s := S2x960x128) ![b, 0, 0] S1x960x128.size inb).emb x) := by
  have h0 : (x 0).val < 1 := (x 0).isLt
  refine (code_at P _ (expR D r) (down_at D r v w hv hw) x).trans ?_
  rw [hP]
  have e0 : ((Rect.unit (s := S2x960x128) ![b, 0, 0] S1x960x128.size inb).emb x 0).val = b + 1 * (x 0).val := rfl
  have e1 : ((Rect.unit (s := S2x960x128) ![b, 0, 0] S1x960x128.size inb).emb x 1).val = 0 + 1 * (x 1).val := rfl
  have e2 : ((Rect.unit (s := S2x960x128) ![b, 0, 0] S1x960x128.size inb).emb x 2).val = 0 + 1 * (x 2).val := rfl
  unfold codesOf
  rw [e0, e1, e2, show b + 1 * (x 0).val = b by omega, show 0 + 1 * (x 1).val = (x 1).val by omega, show 0 + 1 * (x 2).val = (x 2).val by omega]
end

section
variable (c : Dev nD) (arg0 : Memref sig .tc .vmem S2x5120x128 .fp8e5m2) (harg0 : arg0.IsWhole) (arg1 : Memref sig .tc .smem S1 .f32) (harg1 : arg1.IsWhole) (arg2 : Memref sig .tc .vmem S32x1280 .f32) (harg2 : arg2.IsWhole) (arg3 : Memref sig .tc .vmem S32x1280 .f32) (harg3 : arg3.IsWhole) (arg4 : Memref sig .tc .vmem S32x1280 .f32) (harg4 : arg4.IsWhole) (arg5 : Memref sig .tc .vmem S32x1280 .f32) (harg5 : arg5.IsWhole) (arg6 : Memref sig .tc .vmem S2x960x128 .fp8e5m2) (harg6 : arg6.IsWhole) (arg7 : Memref sig .tc .vmem S2x960x128 .fp8e5m2) (harg7 : arg7.IsWhole) (arg8 : Memref sig .tc .vmem S1x960 .f32) (harg8 : arg8.IsWhole)
  (x0 : Vec Ideal S2x5120x128 .fp8e5m2) (x1 : Vec Ideal S1 .f32) (x2 : Vec Ideal S32x1280 .f32) (x3 : Vec Ideal S32x1280 .f32) (x4 : Vec Ideal S32x1280 .f32) (x5 : Vec Ideal S32x1280 .f32)

/-- The scale, and one batch of the codes, as the body loads them. -/
def ldS : EReal := View.readAt (Elt Ideal) arg1.view (Rect.unit (s := S1) ![0] S1.size inb_S1_S1_0).toLoadRect (harg1.unread x1) (Shape.Idx.first (by decide))
def ld0 : Vec Ideal S1x5120x128 .fp8e5m2 := View.readAt (Elt Ideal) arg0.view (Rect.unit (s := S2x5120x128) ![0, 0, 0] S1x5120x128.size inb_S2x5120x128_S1x5120x128_0_0_0).toLoadRect (harg0.unread x0)
def ld1 : Vec Ideal S1x5120x128 .fp8e5m2 := View.readAt (Elt Ideal) arg0.view (Rect.unit (s := S2x5120x128) ![1, 0, 0] S1x5120x128.size inb_S2x5120x128_S1x5120x128_1_0_0).toLoadRect (harg0.unread x0)

theorem ldS_at : ldS arg1 harg1 x1 = x1 (ix1 (0 : Fin 1)) := by
  unfold ldS
  refine (harg1.readAt_unread x1 _ _).trans (congrArg x1 (funext fun a => Fin.ext ?_))
  match a with
  | ⟨0, _⟩ => rfl
theorem ld0_at (y : S1x5120x128.Idx) : (ld0 arg0 harg0 x0 y : EReal) = at3 (L := 2) (M := 5120) (N := 128) x0 0 (y 1).val (y 2).val := by
  have h0 : (y 0).val < 1 := (y 0).isLt
  unfold ld0
  refine (harg0.readAt_unread x0 _ _).trans (at3_of (L := 2) (M := 5120) (N := 128) x0 _ ?_ ?_ ?_)
  · show 0 + 1 * (y 0).val = 0; omega
  · show 0 + 1 * (y 1).val = (y 1).val; omega
  · show 0 + 1 * (y 2).val = (y 2).val; omega
theorem ld1_at (y : S1x5120x128.Idx) : (ld1 arg0 harg0 x0 y : EReal) = at3 (L := 2) (M := 5120) (N := 128) x0 1 (y 1).val (y 2).val := by
  have h0 : (y 0).val < 1 := (y 0).isLt
  unfold ld1
  refine (harg0.readAt_unread x0 _ _).trans (at3_of (L := 2) (M := 5120) (N := 128) x0 _ ?_ ?_ ?_)
  · show 1 + 1 * (y 0).val = 1; omega
  · show 0 + 1 * (y 1).val = (y 1).val; omega
  · show 0 + 1 * (y 2).val = (y 2).val; omega

/-- The stores into the two arrays of codes and the row of scales, newest first. -/
def stRe : List (View.Piece (Elt Ideal) S2x960x128 .fp8e5m2) :=
  [⟨Rect.unit (s := S2x960x128) ![1, 0, 0] S1x960x128.size inb_S2x960x128_S1x960x128_1_0_0, k0_pay16 (F := Ideal) (k0_pay8 k0_pay3 (k0_pay5 (F := Ideal) (ldS arg1 harg1 x1)) (k0_pay6 (ld1 arg0 harg0 x0))) (k0_pay13 (F := Ideal) k0_pay3 k0_pay4 (k0_pay5 (F := Ideal) (ldS arg1 harg1 x1)) (k0_pay6 (ld0 arg0 harg0 x0)) (ld1 arg0 harg0 x0))⟩,
   ⟨Rect.unit (s := S2x960x128) ![0, 0, 0] S1x960x128.size inb_S2x960x128_S1x960x128_0_0_0, k0_pay16 (F := Ideal) (k0_pay8 k0_pay3 (k0_pay5 (F := Ideal) (ldS arg1 harg1 x1)) (k0_pay6 (ld0 arg0 harg0 x0))) (k0_pay13 (F := Ideal) k0_pay3 k0_pay4 (k0_pay5 (F := Ideal) (ldS arg1 harg1 x1)) (k0_pay6 (ld0 arg0 harg0 x0)) (ld1 arg0 harg0 x0))⟩]
def stIm : List (View.Piece (Elt Ideal) S2x960x128 .fp8e5m2) :=
  [⟨Rect.unit (s := S2x960x128) ![1, 0, 0] S1x960x128.size inb_S2x960x128_S1x960x128_1_0_0, k0_pay16 (F := Ideal) (k0_pay8 k0_pay4 (k0_pay5 (F := Ideal) (ldS arg1 harg1 x1)) (k0_pay6 (ld1 arg0 harg0 x0))) (k0_pay13 (F := Ideal) k0_pay3 k0_pay4 (k0_pay5 (F := Ideal) (ldS arg1 harg1 x1)) (k0_pay6 (ld0 arg0 harg0 x0)) (ld1 arg0 harg0 x0))⟩,
   ⟨Rect.unit (s := S2x960x128) ![0, 0, 0] S1x960x128.size inb_S2x960x128_S1x960x128_0_0_0, k0_pay16 (F := Ideal) (k0_pay8 k0_pay4 (k0_pay5 (F := Ideal) (ldS arg1 harg1 x1)) (k0_pay6 (ld0 arg0 harg0 x0))) (k0_pay13 (F := Ideal) k0_pay3 k0_pay4 (k0_pay5 (F := Ideal) (ldS arg1 harg1 x1)) (k0_pay6 (ld0 arg0 harg0 x0)) (ld1 arg0 harg0 x0))⟩]
def stSc : List (View.Piece (Elt Ideal) S1x960 .f32) :=
  [⟨Rect.unit (s := S1x960) ![0, 0] S1x960.size inb_S1x960_S1x960_0_0, k0_pay1 (F := Ideal) (k0_pay12 (F := Ideal) k0_pay3 k0_pay4 (k0_pay5 (F := Ideal) (ldS arg1 harg1 x1)) (k0_pay6 (ld0 arg0 harg0 x0)) (ld1 arg0 harg0 x0))⟩]

theorem run_re : (kernelRun0_A (F := Ideal) c arg0 harg0 arg1 harg1 arg2 harg2 arg3 harg3 arg4 harg4 arg5 harg5 arg6 harg6 arg7 harg7 arg8 harg8 x0 x1 x2 x3 x4 x5).1 = stRe arg0 harg0 arg1 harg1 x0 x1 := rfl
theorem run_im : (kernelRun0_A (F := Ideal) c arg0 harg0 arg1 harg1 arg2 harg2 arg3 harg3 arg4 harg4 arg5 harg5 arg6 harg6 arg7 harg7 arg8 harg8 x0 x1 x2 x3 x4 x5).2.1 = stIm arg0 harg0 arg1 harg1 x0 x1 := rfl
theorem run_sc : (kernelRun0_A (F := Ideal) c arg0 harg0 arg1 harg1 arg2 harg2 arg3 harg3 arg4 harg4 arg5 harg5 arg6 harg6 arg7 harg7 arg8 harg8 x0 x1 x2 x3 x4 x5).2.2.1 = stSc arg0 harg0 arg1 harg1 x0 x1 := rfl

theorem out_re (y : S2x960x128.Idx) : out0_A_6 (F := Ideal) c arg0 harg0 arg1 harg1 arg2 harg2 arg3 harg3 arg4 harg4 arg5 harg5 arg6 harg6 arg7 harg7 arg8 harg8 x0 x1 x2 x3 x4 x5 y = codesOf x0 (x1 (ix1 (0 : Fin 1))) cosR y := by
  unfold out0_A_6
  have hc := cover0_A_6 (F := Ideal) c arg0 harg0 arg1 harg1 arg2 harg2 arg3 harg3 arg4 harg4 arg5 harg5 arg6 harg6 arg7 harg7 arg8 harg8 x0 x1 x2 x3 x4 x5
  rw [run_re] at hc ⊢
  rw [View.read_writes_eq_canon _ _ _ hc, ← ldS_at arg1 harg1 x1]
  refine View.canon_apply_of_pieces (Val := Elt Ideal) (e := .fp8e5m2) (codesOf x0 (ldS arg1 harg1 x1) cosR) _ (fun p hp x => ?_) y (hc y)
  unfold stRe at hp
  rcases List.mem_cons.1 hp with rfl | hp
  · exact piece_at x0 _ _ _ (ld0_at arg0 harg0 x0) (ld1_at arg0 harg0 x0) cosR _ 1 (by decide) (prod_at x0 _ cosR k0_pay3 cos_at _ 1 (ld1_at arg0 harg0 x0)) inb_S2x960x128_S1x960x128_1_0_0 x
  rcases List.mem_cons.1 hp with rfl | hp
  · exact piece_at x0 _ _ _ (ld0_at arg0 harg0 x0) (ld1_at arg0 harg0 x0) cosR _ 0 (by decide) (prod_at x0 _ cosR k0_pay3 cos_at _ 0 (ld0_at arg0 harg0 x0)) inb_S2x960x128_S1x960x128_0_0_0 x
  · simp at hp
theorem out_im (y : S2x960x128.Idx) : out0_A_7 (F := Ideal) c arg0 harg0 arg1 harg1 arg2 harg2 arg3 harg3 arg4 harg4 arg5 harg5 arg6 harg6 arg7 harg7 arg8 harg8 x0 x1 x2 x3 x4 x5 y = codesOf x0 (x1 (ix1 (0 : Fin 1))) sinR y := by
  unfold out0_A_7
  have hc := cover0_A_7 (F := Ideal) c arg0 harg0 arg1 harg1 arg2 harg2 arg3 harg3 arg4 harg4 arg5 harg5 arg6 harg6 arg7 harg7 arg8 harg8 x0 x1 x2 x3 x4 x5
  rw [run_im] at hc ⊢
  rw [View.read_writes_eq_canon _ _ _ hc, ← ldS_at arg1 harg1 x1]
  refine View.canon_apply_of_pieces (Val := Elt Ideal) (e := .fp8e5m2) (codesOf x0 (ldS arg1 harg1 x1) sinR) _ (fun p hp x => ?_) y (hc y)
  unfold stIm at hp
  rcases List.mem_cons.1 hp with rfl | hp
  · exact piece_at x0 _ _ _ (ld0_at arg0 harg0 x0) (ld1_at arg0 harg0 x0) sinR _ 1 (by decide) (prod_at x0 _ sinR k0_pay4 sin_at _ 1 (ld1_at arg0 harg0 x0)) inb_S2x960x128_S1x960x128_1_0_0 x
  rcases List.mem_cons.1 hp with rfl | hp
  · exact piece_at x0 _ _ _ (ld0_at arg0 harg0 x0) (ld1_at arg0 harg0 x0) sinR _ 0 (by decide) (prod_at x0 _ sinR k0_pay4 sin_at _ 0 (ld0_at arg0 harg0 x0)) inb_S2x960x128_S1x960x128_0_0_0 x
  · simp at hp
theorem out_sc (y : S1x960.Idx) : out0_A_8 (F := Ideal) c arg0 harg0 arg1 harg1 arg2 harg2 arg3 harg3 arg4 harg4 arg5 harg5 arg6 harg6 arg7 harg7 arg8 harg8 x0 x1 x2 x3 x4 x5 y = scalesOf x0 (x1 (ix1 (0 : Fin 1))) y := by
  unfold out0_A_8
  have hc := cover0_A_8 (F := Ideal) c arg0 harg0 arg1 harg1 arg2 harg2 arg3 harg3 arg4 harg4 arg5 harg5 arg6 harg6 arg7 harg7 arg8 harg8 x0 x1 x2 x3 x4 x5
  rw [run_sc] at hc ⊢
  rw [View.read_writes_eq_canon _ _ _ hc, ← ldS_at arg1 harg1 x1]
  refine View.canon_apply_of_pieces (Val := Elt Ideal) (e := .f32) (scalesOf x0 (ldS arg1 harg1 x1)) _ (fun p hp x => ?_) y (hc y)
  unfold stSc at hp
  rcases List.mem_cons.1 hp with rfl | hp
  · refine (scale_at _ x).trans ?_
    rw [exp_at x0 _ _ _ (ld0_at arg0 harg0 x0) (ld1_at arg0 harg0 x0)]
    have e1 : ((Rect.unit (s := S1x960) ![0, 0] S1x960.size inb_S1x960_S1x960_0_0).emb x 1).val = 0 + 1 * (x 1).val := rfl
    unfold scalesOf
    rw [e1, show 0 + 1 * (x 1).val = (x 1).val by omega]
  · simp at hp

end

/-! ## The run -/

variable (m : (ℓ : Loc nD τ sig) → Buf (Elt Ideal) ℓ) (ρ : Dev nD → PrngReg)

/-- The incoming codes, as numbers. -/
def dyOf (c : Dev nD) (y : S2x5120x128.Idx) : EReal := Ideal.ofBits .fp8e5m2 ((m ((c : Thread nD τ).loc main_arg0) : S2x5120x128.Idx → BitVec 8) y)
def scOf (c : Dev nD) : EReal := (m ((c : Thread nD τ).loc main_arg1) : S1.Idx → EReal) (ix1 (0 : Fin 1))

theorem blk0 (c : Dev nD) (t : Fin cfg0.N) : (iblk m c 0 t : S2x5120x128.Idx → EReal) = dyOf m c := by
  refine Eq.trans (b := (V m c main_v0 : S2x5120x128.Idx → EReal)) ?_ rfl
  funext y
  unfold iblk
  refine congrArg (V m c main_v0) (funext fun a => Fin.ext ?_)
  match a with
  | ⟨0, _⟩ => show 0 * 2 + 1 * (y 0).val = (y 0).val; omega
  | ⟨1, _⟩ => show 0 * 5120 + 1 * (y 1).val = (y 1).val; omega
  | ⟨2, _⟩ => show 0 * 128 + 1 * (y 2).val = (y 2).val; omega
theorem blk1 (c : Dev nD) (t : Fin cfg0.N) : (iblk m c 1 t : S1.Idx → EReal) = m ((c : Thread nD τ).loc main_arg1) := by
  refine Eq.trans ?_ (V_main_arg1 m c)
  funext y
  unfold iblk
  refine congrArg (V m c main_arg1) (funext fun a => Fin.ext ?_)
  match a with
  | ⟨0, _⟩ => show 0 * 1 + 1 * (y 0).val = (y 0).val; omega

theorem ends_re (c : Dev nD) : ((dats m 0 c).arrAt 6 cfg0.N : S2x960x128.Idx → EReal) = codesOf (dyOf m c) (scOf m c) cosR := by
  have ht : 0 < cfg0.N := by decide
  have h := (Value.blocks6 m c ⟨0, ht⟩ ((by decide +kernel : ∀ t : Fin cfg0.N, (cfg0.win 6).flush t = true) _)).trans (Value.flushed6_A m c ⟨0, ht⟩)
  funext y
  have e : ((cfg0.win 6).blk ⟨0, ht⟩).view.emb y = y := by
    funext a
    apply Fin.ext
    match a with
    | ⟨0, _⟩ => show 0 * 2 + 1 * (y 0).val = (y 0).val; omega
    | ⟨1, _⟩ => show 0 * 960 + 1 * (y 1).val = (y 1).val; omega
    | ⟨2, _⟩ => show 0 * 128 + 1 * (y 2).val = (y 2).val; omega
  refine ((congrArg ((dats m 0 c).arrAt 6 cfg0.N) e).symm.trans (congrFun h y)).trans ?_
  refine (out_re _ _ _ _ _ _ _ _ _ _ _ _ _ _ _ _ _ _ _ _ _ _ _ _ _ y).trans ?_
  rw [blk0, blk1]; rfl
theorem ends_im (c : Dev nD) : ((dats m 0 c).arrAt 7 cfg0.N : S2x960x128.Idx → EReal) = codesOf (dyOf m c) (scOf m c) sinR := by
  have ht : 0 < cfg0.N := by decide
  have h := (Value.blocks7 m c ⟨0, ht⟩ ((by decide +kernel : ∀ t : Fin cfg0.N, (cfg0.win 7).flush t = true) _)).trans (Value.flushed7_A m c ⟨0, ht⟩)
  funext y
  have e : ((cfg0.win 7).blk ⟨0, ht⟩).view.emb y = y := by
    funext a
    apply Fin.ext
    match a with
    | ⟨0, _⟩ => show 0 * 2 + 1 * (y 0).val = (y 0).val; omega
    | ⟨1, _⟩ => show 0 * 960 + 1 * (y 1).val = (y 1).val; omega
    | ⟨2, _⟩ => show 0 * 128 + 1 * (y 2).val = (y 2).val; omega
  refine ((congrArg ((dats m 0 c).arrAt 7 cfg0.N) e).symm.trans (congrFun h y)).trans ?_
  refine (out_im _ _ _ _ _ _ _ _ _ _ _ _ _ _ _ _ _ _ _ _ _ _ _ _ _ y).trans ?_
  rw [blk0, blk1]; rfl
theorem ends_sc (c : Dev nD) : ((dats m 0 c).arrAt 8 cfg0.N : S1x960.Idx → EReal) = scalesOf (dyOf m c) (scOf m c) := by
  have ht : 0 < cfg0.N := by decide
  have h := (Value.blocks8 m c ⟨0, ht⟩ ((by decide +kernel : ∀ t : Fin cfg0.N, (cfg0.win 8).flush t = true) _)).trans (Value.flushed8_A m c ⟨0, ht⟩)
  funext y
  have e : ((cfg0.win 8).blk ⟨0, ht⟩).view.emb y = y := by
    funext a
    apply Fin.ext
    match a with
    | ⟨0, _⟩ => show 0 * 1 + 1 * (y 0).val = (y 0).val; omega
    | ⟨1, _⟩ => show 0 * 960 + 1 * (y 1).val = (y 1).val; omega
  refine ((congrArg ((dats m 0 c).arrAt 8 cfg0.N) e).symm.trans (congrFun h y)).trans ?_
  refine (out_sc _ _ _ _ _ _ _ _ _ _ _ _ _ _ _ _ _ _ _ _ _ _ _ _ _ y).trans ?_
  rw [blk0, blk1]; rfl

end Cert.ReferenceIdeal.Dft
-- ==== Proof.Equation.lean ====
/- The kernel's and the reference's row maxima and exponents are the same functions of a mode's entries. -/
module

public import proofs.«01_k».proof.Proof.RefEntries
public import proofs.«01_k».proof.Proof.Results

@[expose] public section

noncomputable section

namespace Cert.Dft

open Idealize.ShloMosaic Idealize.ShloMosaic.ValueIdx
open Cert.KernelIdeal.Dft Cert.ReferenceIdeal.Dft

/-- The kernel's maximum over the 256 lanes of both batches is the maximum of the four separate ones. -/
theorem rowMax_eq (f g u v : ℕ → EReal) (hf : ∀ q, q < 256 → f q = u q) (hg : ∀ q, q < 256 → g q = v q) : rowMax f g = amax u v := by
  refine eq_of_forall_ge_iff fun c => ?_
  unfold rowMax amax half
  simp only [max_le_iff, Finset.fold_max_le, Finset.mem_univ, true_implies]
  constructor
  · rintro ⟨h0, h⟩
    have h' : ∀ q, q < 256 → (u q ≤ c ∧ -(u q) ≤ c) ∧ (v q ≤ c ∧ -(v q) ≤ c) := fun q hq => by
      have := h ⟨q, hq⟩
      rw [hf q hq, hg q hq] at this
      exact this
    exact ⟨⟨⟨⟨h0, fun l => (h' _ (by omega)).1⟩, h0, fun l => (h' _ (by omega)).1⟩, h0, fun l => (h' _ (by omega)).2⟩, h0, fun l => (h' _ (by omega)).2⟩
  · rintro ⟨⟨⟨⟨h0, a⟩, _, b⟩, _, d⟩, _, e⟩
    refine ⟨h0, fun q => ?_⟩
    rw [hf q.val q.isLt, hg q.val q.isLt]
    by_cases hq : q.val < 128
    · have a' := a ⟨q.val, hq⟩
      have d' := d ⟨q.val, hq⟩
      have e0 : 128 * 0 + q.val = q.val := by omega
      rw [e0] at a' d'
      exact ⟨a', d'⟩
    · have hq' : q.val - 128 < 128 := by omega
      have b' := b ⟨q.val - 128, hq'⟩
      have e' := e ⟨q.val - 128, hq'⟩
      have e0 : 128 * 1 + (q.val - 128) = q.val := by omega
      rw [e0] at b' e'
      exact ⟨b', e'⟩

/-- The factor 1/57344, a positive real. -/
theorem top_pos : ∃ x : ℝ, 0 < x ∧ Ideal.ofBits .f32 0x37924925#32 = ((x : ℝ) : EReal) := by
  refine ⟨9586981 * (2 : ℝ) ^ (-39 : ℤ), by positivity, ?_⟩
  simp [Ideal.ofBits, Ideal.ieee, -EReal.coe_mul]

theorem ex_eq (t : EReal) : exOf (t * Ideal.ofBits .f32 0x37924925#32) = exR t := by
  obtain ⟨x, hx, e⟩ := top_pos
  have hne : (Ideal.ofBits .f32 0x37924925#32 : EReal) ≠ 0 := by rw [e]; exact_mod_cast hx.ne'
  have hn : (Named.named (F := Ideal) Cert.KernelIdeal.κ "inv_ln_two" (φ := .f32) 0x3FB8AA3B#32 : EReal) = Named.named (F := Ideal) Cert.ReferenceIdeal.κ "inv_ln_two" (φ := .f32) 0x3FB8AA3B#32 :=
    (IdealRules.named_const.ideal_named_scalar _ _ _ (((Real.log 2)⁻¹ : ℝ) : EReal) rfl).trans (IdealRules.named_const.ideal_named_scalar _ _ _ (((Real.log 2)⁻¹ : ℝ) : EReal) rfl).symm
  unfold exOf exR
  rw [hn]
  by_cases h : t = 0
  · rw [if_pos h, h, zero_mul, if_pos rfl]
  · rw [if_neg h, if_neg (mul_ne_zero h hne)]

end Cert.Dft
-- ==== Proof.Wild.lean ====
/- The equation when some incoming code is infinite: every mode then has an infinite entry, in the kernel's rows as in the plain
   transform's, so that the largest magnitude, the exponent and the codes agree. With the finite case, the equation for all codes. -/
module

public import proofs.«01_k».proof.Proof.Equation

@[expose] public section

noncomputable section

namespace Cert.Dft

open Idealize.ShloMosaic Idealize.ShloMosaic.ValueIdx
open Cert.KernelIdeal.Dft Cert.ReferenceIdeal.Dft

/-- Infinite, of either sign. -/
def Wild (x : EReal) : Prop := x = ⊤ ∨ x = ⊥

theorem wild_add (x y : EReal) : Wild (x + y) ↔ Wild x ∨ Wild y := by
  unfold Wild
  induction x <;> induction y <;> simp [← EReal.coe_add]
theorem wild_neg (x : EReal) : Wild (-x) ↔ Wild x := by
  unfold Wild
  induction x <;> simp [← EReal.coe_neg]
theorem wild_sub (x y : EReal) : Wild (x - y) ↔ Wild x ∨ Wild y := by
  rw [sub_eq_add_neg, wild_add, wild_neg]
/-- A product of an infinite factor and one that is not zero is infinite. -/
theorem wild_mul (x y : EReal) (hx : Wild x) (hy : y ≠ 0) : Wild (y * x) := by
  unfold Wild at *
  rcases lt_or_gt_of_ne hy with h | h
  · rcases hx with rfl | rfl
    · exact .inr (EReal.mul_top_of_neg h)
    · exact .inl (EReal.mul_bot_of_neg h)
  · rcases hx with rfl | rfl
    · exact .inl (EReal.mul_top_of_pos h)
    · exact .inr (EReal.mul_bot_of_pos h)
theorem wild_coe_mul (x : EReal) (c : ℝ) (hx : Wild x) (hc : c ≠ 0) : Wild ((c : EReal) * x) :=
  wild_mul x c hx (by exact_mod_cast hc)
/-- A sum with an infinite term is infinite. -/
theorem wild_sum {n : ℕ} (f : Fin n → EReal) (k : Fin n) (h : Wild (f k)) : Wild (∑ k, f k) := by
  rw [← Finset.add_sum_erase _ f (Finset.mem_univ k), wild_add]
  exact .inl h
theorem abs_wild (x : EReal) (h : Wild x) : max x (-x) = ⊤ := by
  rcases h with rfl | rfl <;> simp

theorem cos_or_sin (m k : ℕ) : cosR m k ≠ 0 ∨ sinR m k ≠ 0 := by
  by_contra h
  push Not at h
  unfold cosR sinR at h
  have := Real.sin_sq_add_cos_sq ((m : ℝ) * k * step)
  rw [h.1, neg_eq_zero.1 h.2] at this
  norm_num at this
theorem sgR_ne (m : ℕ) : sgR m ≠ 0 := by
  unfold sgR; split_ifs <;> norm_num
theorem alR_or_beR (m : ℕ) : alR m ≠ 0 ∨ beR m ≠ 0 := by
  unfold alR beR
  have hp : m % 4 < 4 := Nat.mod_lt _ (by decide)
  generalize m % 4 = r at hp
  interval_cases r <;> simp

section
variable (x1 x2 x3 x4 : Cert.KernelIdeal.S32x1280.Idx → EReal) (D : Cert.KernelIdeal.S2x5120x128.Idx → EReal) (r : EReal)
  (hX : Exact (at2 x1) (at2 x2) (at2 x3) (at2 x4))
include hX

/-- A quarter product's row is infinite where the code is and the row's factor is not zero. -/
theorem wild_part_re (j n i q k : ℕ) (hn : n < 30) (hi : i < 32) (hk : k < 1280) (hc : cosR (32 * n + i) k ≠ 0) (h : Wild (at3 D (q / 128) (1280 * j + k) (q % 128))) :
    Wild (part x1 x2 x3 x4 D 0 j n i q) := by
  unfold part
  refine wild_sum _ ⟨k, hk⟩ ?_
  show Wild (base x1 x2 x3 x4 0 n i k * _)
  rw [base_re x1 x2 x3 x4 hX n i k hn hi hk]
  exact wild_coe_mul _ _ h hc
theorem wild_part_im (j n i q k : ℕ) (hn : n < 30) (hi : i < 32) (hk : k < 1280) (hc : sinR (32 * n + i) k ≠ 0) (h : Wild (at3 D (q / 128) (1280 * j + k) (q % 128))) :
    Wild (part x1 x2 x3 x4 D 1 j n i q) := by
  unfold part
  refine wild_sum _ ⟨k, hk⟩ ?_
  show Wild (base x1 x2 x3 x4 1 n i k * _)
  rw [base_im x1 x2 x3 x4 hX n i k hn hi hk]
  exact wild_coe_mul _ _ h hc

omit hX in
theorem wild_ev (h j n i q : ℕ) (hj : j = 0 ∨ j = 2) (hw : Wild (part x1 x2 x3 x4 D h j n i q)) : Wild (ev x1 x2 x3 x4 D h n i q) := by
  unfold ev
  rw [wild_add, sg_coe]
  rcases hj with rfl | rfl
  · exact .inl hw
  · exact .inr (wild_coe_mul _ _ hw (sgR_ne _))
omit hX in
theorem wild_od (h j n i q : ℕ) (hj : j = 1 ∨ j = 3) (hw : Wild (part x1 x2 x3 x4 D h j n i q)) : Wild (od x1 x2 x3 x4 D h n i q) := by
  unfold od
  rw [wild_add, sg_coe]
  rcases hj with rfl | rfl
  · exact .inl hw
  · exact .inr (wild_coe_mul _ _ hw (sgR_ne _))

/-- In the column of an infinite code each mode of the kernel has an infinite part. -/
theorem wild_kernel (n i q p : ℕ) (hn : n < 30) (hi : i < 32) (hp : p < 5120) (h : Wild (at3 D (q / 128) p (q % 128))) (hr : cf r (32 * n + i) ≠ 0) :
    Wild (reOf x1 x2 x3 x4 D r n i q) ∨ Wild (imOf x1 x2 x3 x4 D r n i q) := by
  have hk : p % 1280 < 1280 := Nat.mod_lt _ (by decide)
  have e : 1280 * (p / 1280) + p % 1280 = p := by omega
  rw [← e] at h
  have hj : p / 1280 < 4 := by omega
  generalize p / 1280 = j at h hj
  generalize p % 1280 = k at h hk
  unfold reOf imOf
  rw [mul_comm _ (cf r _), mul_comm _ (cf r _)]
  refine Or.imp (fun hw => wild_mul _ _ hw hr) (fun hw => wild_mul _ _ hw hr) ?_
  rw [wild_add, wild_add, wild_sub, wild_add, al_coe, be_coe]
  have hpart : Wild (part x1 x2 x3 x4 D 0 j n i q) ∨ Wild (part x1 x2 x3 x4 D 1 j n i q) :=
    (cos_or_sin (32 * n + i) k).imp (fun hc => wild_part_re x1 x2 x3 x4 D hX j n i q k hn hi hk hc h) (fun hc => wild_part_im x1 x2 x3 x4 D hX j n i q k hn hi hk hc h)
  by_cases hE : j = 0 ∨ j = 2
  · rcases hpart with hw | hw
    · exact .inl (.inl (.inl (wild_ev x1 x2 x3 x4 D 0 j n i q hE hw)))
    · exact .inr (.inl (.inl (wild_ev x1 x2 x3 x4 D 1 j n i q hE hw)))
  · have hO : j = 1 ∨ j = 3 := by omega
    rcases hpart with hw | hw
    · have ho := wild_od x1 x2 x3 x4 D 0 j n i q hO hw
      rcases alR_or_beR (32 * n + i) with ha | hb
      · exact .inl (.inl (.inr (wild_coe_mul _ _ ho ha)))
      · exact .inr (.inr (wild_coe_mul _ _ ho hb))
    · have ho := wild_od x1 x2 x3 x4 D 1 j n i q hO hw
      rcases alR_or_beR (32 * n + i) with ha | hb
      · exact .inr (.inl (.inr (wild_coe_mul _ _ ho ha)))
      · exact .inl (.inr (wild_coe_mul _ _ ho hb))

omit hX in
/-- And so has each mode of the plain transform. -/
theorem wild_plain (m q p : ℕ) (hp : p < 5120) (h : Wild (at3 D (q / 128) p (q % 128))) (hr : cf r m ≠ 0) : Wild (plain cosR D r m q) ∨ Wild (plain sinR D r m q) := by
  unfold plain
  rw [mul_comm _ (cf r _), mul_comm _ (cf r _)]
  exact (cos_or_sin m p).imp (fun hc => wild_mul _ _ (wild_sum _ ⟨p, hp⟩ (wild_coe_mul _ _ h hc)) hr) (fun hc => wild_mul _ _ (wild_sum _ ⟨p, hp⟩ (wild_coe_mul _ _ h hc)) hr)

omit hX in
/-- A row with an infinite entry has the largest magnitude `⊤`. -/
theorem rowMax_top (f g : ℕ → EReal) (q : ℕ) (hq : q < 256) (h : Wild (f q) ∨ Wild (g q)) : rowMax f g = ⊤ := by
  have hl : rowMax f g ≤ rowMax f g := le_rfl
  rw [rowMax, Finset.fold_max_le] at hl
  have h' := hl.2 ⟨q, hq⟩ (Finset.mem_univ _)
  rw [max_le_iff] at h'
  rw [← top_le_iff]
  rcases h with h | h
  · rw [← abs_wild _ h]; exact h'.1
  · rw [← abs_wild _ h]; exact h'.2

omit hX in
theorem exR_top : exR ⊤ = ⊤ := by
  obtain ⟨x, hx, e⟩ := top_pos
  have hn : (Named.named (F := Ideal) Cert.ReferenceIdeal.κ "inv_ln_two" (φ := .f32) 0x3FB8AA3B#32 : EReal) = (((Real.log 2)⁻¹ : ℝ) : EReal) :=
    IdealRules.named_const.ideal_named_scalar _ _ _ (((Real.log 2)⁻¹ : ℝ) : EReal) rfl
  unfold exR
  rw [if_neg (by simp), hn, e, EReal.top_mul_coe_of_pos hx, Ideal.log_top, EReal.top_mul_coe_of_pos (by positivity)]
  rfl
omit hX in
/-- At the exponent `⊤` every code is that of zero. -/
theorem clip_top (y z : EReal) : clip y ⊤ = clip z ⊤ := by
  have h : Ideal.exp2 ((0 : EReal) - ⊤) = 0 := by
    rw [sub_eq_add_neg, EReal.neg_top, EReal.add_bot]; rfl
  unfold clip
  rw [h, mul_zero, mul_zero]

/-- The kernel's mode and the plain transform's: one exponent, and with it one code in every column. -/
theorem row_same (m : ℕ) (hm : m < 960) : exAt x1 x2 x3 x4 D r (m / 32) (m % 32) = expR D r m ∧ ∀ q, q < 256 →
    clip (reOf x1 x2 x3 x4 D r (m / 32) (m % 32) q) (expR D r m) = clip (plain cosR D r m q) (expR D r m)
      ∧ clip (imOf x1 x2 x3 x4 D r (m / 32) (m % 32) q) (expR D r m) = clip (plain sinR D r m q) (expR D r m) := by
  have e : 32 * (m / 32) + m % 32 = m := by omega
  have equal : (∀ q, q < 256 → reOf x1 x2 x3 x4 D r (m / 32) (m % 32) q = plain cosR D r m q) → (∀ q, q < 256 → imOf x1 x2 x3 x4 D r (m / 32) (m % 32) q = plain sinR D r m q) →
      exAt x1 x2 x3 x4 D r (m / 32) (m % 32) = expR D r m ∧ ∀ q, q < 256 →
        clip (reOf x1 x2 x3 x4 D r (m / 32) (m % 32) q) (expR D r m) = clip (plain cosR D r m q) (expR D r m)
          ∧ clip (imOf x1 x2 x3 x4 D r (m / 32) (m % 32) q) (expR D r m) = clip (plain sinR D r m q) (expR D r m) := by
    intro hre him
    refine ⟨?_, fun q hq => ⟨by rw [hre q hq], by rw [him q hq]⟩⟩
    unfold exAt
    rw [ex_eq, expR_eq]
    exact congrArg exR (rowMax_eq _ _ _ _ hre him)
  by_cases hw : ∃ b n l, b < 2 ∧ n < 5120 ∧ l < 128 ∧ Wild (at3 D b n l)
  · by_cases hr : cf r m = 0
    · refine equal (fun q _ => ?_) fun q _ => ?_
      · unfold reOf plain; rw [e, hr, mul_zero, mul_zero]
      · unfold imOf plain; rw [e, hr, mul_zero, mul_zero]
    · obtain ⟨b, n, l, hb, hn, hl, h⟩ := hw
      have hq : 128 * b + l < 256 := by omega
      have h' : Wild (at3 D ((128 * b + l) / 128) n ((128 * b + l) % 128)) := by
        rw [show (128 * b + l) / 128 = b by omega, show (128 * b + l) % 128 = l by omega]; exact h
      have hR : expR D r m = ⊤ := by
        rw [expR_eq, ← rowMax_eq _ _ _ _ (fun _ _ => rfl) (fun _ _ => rfl), rowMax_top _ _ _ hq (wild_plain D r m _ n hn h' hr)]
        exact exR_top
      refine ⟨?_, fun q _ => ?_⟩
      · unfold exAt
        rw [ex_eq, hR, rowMax_top _ _ _ hq (wild_kernel x1 x2 x3 x4 D r hX _ _ _ n (by omega) (by omega) hn h' (by rw [e]; exact hr))]
        exact exR_top
      · rw [hR]; exact ⟨clip_top _ _, clip_top _ _⟩
  · have hD : ∀ b n l, b < 2 → n < 5120 → l < 128 → at3 D b n l = (((at3 D b n l).toReal : ℝ) : EReal) := by
      intro b n l hb hn hl
      refine (EReal.coe_toReal (fun h => hw ⟨b, n, l, hb, hn, hl, .inl h⟩) fun h => hw ⟨b, n, l, hb, hn, hl, .inr h⟩).symm
    refine equal (fun q hq => ?_) fun q hq => ?_
    · rw [reOf_eq x1 x2 x3 x4 D hX (fun b n l => (at3 D b n l).toReal) hD r _ _ q (by omega) (by omega) hq, e]; rfl
    · rw [imOf_eq x1 x2 x3 x4 D hX (fun b n l => (at3 D b n l).toReal) hD r _ _ q (by omega) (by omega) hq, e]; rfl

theorem re_same (m b l : ℕ) (hm : m < 960) (hb : b < 2) (hl : l < 128) : codeAt x1 x2 x3 x4 D r 0 b m l = clip (plain cosR D r m (128 * b + l)) (expR D r m) := by
  obtain ⟨he, hc⟩ := row_same x1 x2 x3 x4 D r hX m hm
  unfold codeAt
  rw [he, if_pos rfl, (hc _ (by omega)).1]
theorem im_same (m b l : ℕ) (hm : m < 960) (hb : b < 2) (hl : l < 128) : codeAt x1 x2 x3 x4 D r 1 b m l = clip (plain sinR D r m (128 * b + l)) (expR D r m) := by
  obtain ⟨he, hc⟩ := row_same x1 x2 x3 x4 D r hX m hm
  unfold codeAt
  rw [he, if_neg (by decide), (hc _ (by omega)).2]
theorem sc_same (m : ℕ) (hm : m < 960) : scaleAt x1 x2 x3 x4 D r m = Ideal.exp2 (expR D r m) := by
  unfold scaleAt
  rw [(row_same x1 x2 x3 x4 D r hX m hm).1]

end

end Cert.Dft
-- ==== Proof.Tables.lean ====
/- The precondition, read: the four tables are the cosines and sines of their angles. -/
module

public import proofs.«01_k».proof.Defs
public import proofs.«01_k».proof.Proof.Angles
public import Idealize.ShloMosaic.Lib.ReduceAll
public import Idealize.ShloMosaic.Lib.Affine

@[expose] public section

noncomputable section

namespace Cert.KernelIdeal.Dft

open Idealize.ShloMosaic Idealize.ShloMosaic.ValueIdx

theorem word_int (n : ℕ) (h : n < 1280) : (BitVec.ofNat 32 n).toInt = (n : ℤ) := by
  rw [BitVec.toInt_eq_toNat_cond, BitVec.toNat_ofNat, Nat.mod_eq_of_lt (by omega), if_pos (by omega)]

/-- The step of the tables: the angle `π` by 2560. -/
theorem step_value : Ideal.div (Ideal.acos (Ideal.ofBits .f32 0xBF800000#32)) (Ideal.ofBits .f32 0x45200000#32) = ((step : ℝ) : EReal) := by
  have h1 : Ideal.ofBits .f32 0xBF800000#32 = ((-1 : ℝ) : EReal) := by
    simp [Ideal.ofBits, Ideal.ieee, -EReal.coe_mul]; norm_num
  have h2 : Ideal.ofBits .f32 0x45200000#32 = ((2560 : ℝ) : EReal) := by
    simp [Ideal.ofBits, Ideal.ieee, -EReal.coe_mul]; norm_num
  rw [h1, h2, Ideal.acos_coe, if_pos (by norm_num), Real.arccos_neg_one, Ideal.div_coe (by norm_num), ← EReal.coe_mul]
  congr 1
  unfold step; ring
theorem rows_value : Ideal.ofBits .f32 0x42000000#32 = ((32 : ℝ) : EReal) := by
  simp [Ideal.ofBits, Ideal.ieee, -EReal.coe_mul]; norm_num

/-- The angle of the tables of single columns. -/
theorem near (i k : ℕ) (hi : i < 1280) (hk : k < 1280) : ((((BitVec.ofNat 32 i).toInt : ℝ) : EReal) * (((BitVec.ofNat 32 k).toInt : ℝ) : EReal))
    * Ideal.div (Ideal.acos (Ideal.ofBits .f32 0xBF800000#32)) (Ideal.ofBits .f32 0x45200000#32) = (((i : ℝ) * k * step : ℝ) : EReal) := by
  rw [word_int i hi, word_int k hk, step_value, ← EReal.coe_mul, ← EReal.coe_mul, Int.cast_natCast, Int.cast_natCast]
/-- The angle of the tables of whole row blocks. -/
theorem far (i k : ℕ) (hi : i < 1280) (hk : k < 1280) : ((((BitVec.ofNat 32 i).toInt : ℝ) : EReal) * (((BitVec.ofNat 32 k).toInt : ℝ) : EReal)) * Ideal.ofBits .f32 0x42000000#32
    * Ideal.div (Ideal.acos (Ideal.ofBits .f32 0xBF800000#32)) (Ideal.ofBits .f32 0x45200000#32) = (((i : ℝ) * k * 32 * step : ℝ) : EReal) := by
  rw [word_int i hi, word_int k hk, step_value, rows_value, ← EReal.coe_mul, ← EReal.coe_mul, ← EReal.coe_mul, Int.cast_natCast, Int.cast_natCast]

open Cert.Pre_exact_tables in
variable [Cert.Pre_exact_tables.Facts] in
/-- What the precondition says of the arguments. -/
theorem exact_of (a0 : IVec Cert.Pre_exact_tables.S2x5120x128 8) (a1 : FVec Ideal Cert.Pre_exact_tables.S1 .f32) (a2 a3 a4 a5 : FVec Ideal Cert.Pre_exact_tables.S32x1280 .f32)
    (h : Cert.Pre_exact_tables.fn (F := Ideal) a0 a1 a2 a3 a4 a5 = fun _ => 1#1) :
    Exact (at2 (M := 32) (N := 1280) a2) (at2 (M := 32) (N := 1280) a3) (at2 (M := 32) (N := 1280) a4) (at2 (M := 32) (N := 1280) a5) := by
  have h0 := congrFun h (Shape.Idx.first (by decide))
  unfold Cert.Pre_exact_tables.fn Cert.Pre_exact_tables.fn_part1 at h0
  haveI : Subsingleton Cert.Pre_exact_tables.S_.Idx := ⟨fun a b => funext fun i => i.elim0⟩
  obtain ⟨h1, hE⟩ := IntOp.andi_eq_one.1 (show IntOp.andi _ _ = 1#1 from h0)
  obtain ⟨h2, hD⟩ := IntOp.andi_eq_one.1 (show IntOp.andi _ _ = 1#1 from h1)
  obtain ⟨hB, hC⟩ := IntOp.andi_eq_one.1 (show IntOp.andi _ _ = 1#1 from h2)
  refine ⟨fun i k hi hk => ?_, fun i k hi hk => ?_, fun i k hi hk => ?_, fun i k hi hk => ?_⟩
  · refine ((at2_of a2 (ix2 ⟨i, hi⟩ ⟨k, hk⟩) rfl rfl).symm.trans ((cmpf_oeq_at _ _ _).1 (Host.reduce_andi_all _ _ _ _ _ hB (ix2 ⟨i, hi⟩ ⟨k, hk⟩)))).trans ?_
    exact (congrArg Ideal.cos (near i k (by omega) hk)).trans (Ideal.cos_coe _)
  · refine ((at2_of a3 (ix2 ⟨i, hi⟩ ⟨k, hk⟩) rfl rfl).symm.trans ((cmpf_oeq_at _ _ _).1 (Host.reduce_andi_all _ _ _ _ _ hC (ix2 ⟨i, hi⟩ ⟨k, hk⟩)))).trans ?_
    exact (congrArg Ideal.sin (near i k (by omega) hk)).trans (Ideal.sin_coe _)
  · refine ((at2_of a4 (ix2 ⟨i, hi⟩ ⟨k, hk⟩) rfl rfl).symm.trans ((cmpf_oeq_at _ _ _).1 (Host.reduce_andi_all _ _ _ _ _ hD (ix2 ⟨i, hi⟩ ⟨k, hk⟩)))).trans ?_
    exact (congrArg Ideal.cos (far i k (by omega) hk)).trans (Ideal.cos_coe _)
  · refine ((at2_of a5 (ix2 ⟨i, hi⟩ ⟨k, hk⟩) rfl rfl).symm.trans ((cmpf_oeq_at _ _ _).1 (Host.reduce_andi_all _ _ _ _ _ hE (ix2 ⟨i, hi⟩ ⟨k, hk⟩)))).trans ?_
    exact (congrArg Ideal.sin (far i k (by omega) hk)).trans (Ideal.sin_coe _)

end Cert.KernelIdeal.Dft
-- ==== Proof.Algebraic.lean ====
/- The value claim: from tables that are exact, the kernel and the reference end with equal results. -/
module

public import proofs.«01_k».proof.Proof.KernelValue
public import proofs.«01_k».proof.Proof.RefValue
public import proofs.«01_k».proof.Proof.Wild
public import proofs.«01_k».proof.Proof.Tables
public import proofs.«01_k».proof.Proof.Gen.KernelIdeal.Frame
public import Idealize.ShloMosaic.Lib.Claim

@[expose] public section

noncomputable section

namespace Cert.Dft

open Idealize.ShloMosaic Idealize.ShloMosaic.TcCoe Idealize.ShloMosaic.ValueIdx
open Cert.KernelIdeal.Dft (at2 at3 Exact cosR sinR)

/-- The shape facts the precondition states. -/
theorem preFacts : Cert.Pre_exact_tables.Facts := ⟨by decide, by decide, by decide⟩

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (hp : Pre_KernelIdeal_exact_tables (hPre_exact_tables := preFacts) m)

include hp

theorem tables (c : Dev Cert.KernelIdeal.nD) : Exact (at2 (Cert.KernelIdeal.Dft.X1 m c)) (at2 (Cert.KernelIdeal.Dft.X2 m c)) (at2 (Cert.KernelIdeal.Dft.X3 m c)) (at2 (Cert.KernelIdeal.Dft.X4 m c)) :=
  haveI := preFacts
  Cert.KernelIdeal.Dft.exact_of _ _ _ _ _ _ (hp c)

variable (h0 : ∀ c : Dev Cert.KernelIdeal.nD, Cert.ReferenceIdeal.Dft.dyOf m' c = Cert.KernelIdeal.Dft.dyOf m c) (h1 : ∀ c : Dev Cert.KernelIdeal.nD, Cert.ReferenceIdeal.Dft.scOf m' c = Cert.KernelIdeal.Dft.scOf m c)
include h0 h1

theorem same_re (c : Dev Cert.KernelIdeal.nD) : (Cert.ReferenceIdeal.Dft.codesOf (Cert.ReferenceIdeal.Dft.dyOf m' c) (Cert.ReferenceIdeal.Dft.scOf m' c) cosR : Cert.KernelIdeal.S2x960x128.Idx → EReal) = (Cert.KernelIdeal.Dft.ends m).re c := by
  rw [h0, h1]
  exact funext fun y => (re_same _ _ _ _ _ _ (tables m hp c) _ _ _ (y 1).isLt (y 0).isLt (y 2).isLt).symm
theorem same_im (c : Dev Cert.KernelIdeal.nD) : (Cert.ReferenceIdeal.Dft.codesOf (Cert.ReferenceIdeal.Dft.dyOf m' c) (Cert.ReferenceIdeal.Dft.scOf m' c) sinR : Cert.KernelIdeal.S2x960x128.Idx → EReal) = (Cert.KernelIdeal.Dft.ends m).im c := by
  rw [h0, h1]
  exact funext fun y => (im_same _ _ _ _ _ _ (tables m hp c) _ _ _ (y 1).isLt (y 0).isLt (y 2).isLt).symm
theorem same_sc (c : Dev Cert.KernelIdeal.nD) : (Cert.ReferenceIdeal.Dft.scalesOf (Cert.ReferenceIdeal.Dft.dyOf m' c) (Cert.ReferenceIdeal.Dft.scOf m' c) : Cert.KernelIdeal.S1x960.Idx → EReal) = (Cert.KernelIdeal.Dft.ends m).sc c := by
  rw [h0, h1]
  exact funext fun y => (sc_same _ _ _ _ _ _ (tables m hp c) _ (y 1).isLt).symm

end

/-- Both programs run, end with equal results and leave their arguments alone. -/
theorem algebraic : algebraic_KernelIdeal_ReferenceIdeal_pre_exact_tables (hKernelIdeal := Cert.KernelIdeal.Gen.facts) (hReferenceIdeal := Cert.ReferenceIdeal.Gen.facts) (hPre_exact_tables := preFacts) := by
  intro m g m' g' hp hargs
  have h0 : ∀ c : Dev Cert.KernelIdeal.nD, Cert.ReferenceIdeal.Dft.dyOf m' c = Cert.KernelIdeal.Dft.dyOf m c := fun c =>
    congrArg (fun (f : Cert.KernelIdeal.S2x5120x128.Idx → BitVec 8) (y : Cert.KernelIdeal.S2x5120x128.Idx) => (Ideal.ofBits .fp8e5m2 (f y) : EReal)) (hargs c).1
  have h1 : ∀ c : Dev Cert.KernelIdeal.nD, Cert.ReferenceIdeal.Dft.scOf m' c = Cert.KernelIdeal.Dft.scOf m c := fun c =>
    congrArg (fun (f : Cert.KernelIdeal.S1.Idx → EReal) => f (ix1 (0 : Fin 1))) (hargs c).2.1
  refine ⟨(Cert.KernelIdeal.Dft.ends m).re, (Cert.KernelIdeal.Dft.ends m).im, (Cert.KernelIdeal.Dft.ends m).sc, ?_, ?_⟩
  · refine (θ_run _ _ _).mono (fun r h c => ?_) (θ_run_and (Cert.KernelIdeal.Dft.run_ends m g) (Cert.KernelIdeal.Gen.unchanged m g))
    exact ⟨(h.1 c).1, (h.1 c).2.1, (h.1 c).2.2, h.2 c⟩
  · refine (θ_run _ _ _).mono (fun r h c => ?_) (Cert.ReferenceIdeal.Value.run_blocks m' g')
    obtain ⟨e0, e1, e2, e⟩ := h c
    exact ⟨e0.trans ((Cert.ReferenceIdeal.Dft.ends_re m' c).trans (same_re m m' hp h0 h1 c)), e1.trans ((Cert.ReferenceIdeal.Dft.ends_im m' c).trans (same_im m m' hp h0 h1 c)),
      e2.trans ((Cert.ReferenceIdeal.Dft.ends_sc m' c).trans (same_sc m m' hp h0 h1 c)), e⟩

end Cert.Dft
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Reference
public import proofs.«01_k».proof.Proof.Gen.Reference.Skeleton
public import proofs.«01_k».proof.Proof.Gen.Reference.Launch
public import proofs.«01_k».proof.Proof.Gen.Reference.Points
public import proofs.«01_k».proof.Proof.Gen.Reference.Frame
public import proofs.«01_k».proof.Proof.Gen.ReferenceIdeal.Value
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- Everything the certificate claims. -/
theorem claim : Cert.Claim :=
  ⟨Cert.Kernel.Gen.facts, Cert.KernelIdeal.Gen.facts, Cert.ReferenceIdeal.Gen.facts, Cert.Reference.Gen.facts, Cert.Dft.preFacts,
    fun m ρ _ => Cert.Kernel.Gen.frame m ρ,
    fun m ρ _ => Cert.KernelIdeal.Gen.frame m ρ,
    fun m ρ _ => Cert.KernelIdeal.Gen.frame m ρ,
    fun m ρ _ => Cert.ReferenceIdeal.Gen.frame m ρ,
    fun m ρ _ => Cert.ReferenceIdeal.Gen.frame m ρ,
    fun m ρ _ => Cert.Reference.Gen.frame m ρ,
    IdealRules.named_const.statement Cert.KernelIdeal.κ "inv_ln_two" .f32 0x3FB8AA3B#32 (((Real.log 2)⁻¹ : ℝ) : EReal) rfl,
    ⟨IdealRules.named_const.statement Cert.ReferenceIdeal.κ "two_pi_over_seq" .f32 0x3AA0D97C#32 ((Real.pi * (1 / 2560) : ℝ) : EReal) rfl,
    IdealRules.named_const.statement Cert.ReferenceIdeal.κ "inv_ln_two" .f32 0x3FB8AA3B#32 (((Real.log 2)⁻¹ : ℝ) : EReal) rfl⟩,
    Cert.Dft.algebraic⟩

end Cert.Proof

end
